-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v100)) (v1 : (c : Dev Cert.Kernel4Ideal.nD) → Buf (Elt Ideal) ((c.tc : Thread Cert.Kernel4Ideal.nD Cert.Kernel4Ideal.τ).loc Cert.Kernel4Ideal.main_v101)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v100) = v0 c
          ∧ r.2.mem ((c.tc : Thread Cert.Kernel4Ideal.nD Cert.Kernel4Ideal.τ).loc Cert.Kernel4Ideal.main_v101) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x16384x512 : Shape := ⟨3, ![2, 16384, 512]⟩
abbrev S2x16384x128 : Shape := ⟨3, ![2, 16384, 128]⟩
abbrev S8 : Shape := ⟨1, ![8]⟩
abbrev S_ : Shape := ⟨0, ![]⟩

class Facts : Prop where
  bcast_S_S2x16384x512 : S_.BroadcastsInDim S2x16384x512 (![] : Fin 0 → Fin S2x16384x512.rank)
  bcast_S_S2x16384x128 : S_.BroadcastsInDim S2x16384x128 (![] : Fin 0 → Fin S2x16384x128.rank)
  bcast_S_S8 : S_.BroadcastsInDim S8 (![] : Fin 0 → Fin S8.rank)

variable [Facts]

def fn {F : FTy → Type} [FloatOps F] (main_arg0 : FVec F S2x16384x512 .f32) (main_arg1 : FVec F S2x16384x128 .f32) (main_arg2 : FVec F S2x16384x128 .f32) (main_arg3 : FVec F S8 .f32) : IVec S2x16384x512 1 × IVec S2x16384x128 1 × IVec S8 1 :=
  let main_v0 : FVec F S2x16384x512 .f32 := Host.absf main_arg0
  let main_cst : FVec F S_ .f32 := constant S_ .f32 0x7F800000#32
  let main_v1 : FVec F S2x16384x512 .f32 := broadcastInDim S2x16384x512 ![] bcast_S_S2x16384x512 main_cst
  let main_v2 : IVec S2x16384x512 1 := cmpf .olt main_v0 main_v1
  let main_v3 : FVec F S2x16384x128 .f32 := Host.absf main_arg1
  let main_cst_0 : FVec F S_ .f32 := constant S_ .f32 0x7F800000#32
  let main_v4 : FVec F S2x16384x128 .f32 := broadcastInDim S2x16384x128 ![] bcast_S_S2x16384x128 main_cst_0
  let main_v5 : IVec S2x16384x128 1 := cmpf .olt main_v3 main_v4
  let main_v6 : FVec F S8 .f32 := Host.absf main_arg3
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Kernel.lean ====
abbrev S2x16384x512 : Shape := ⟨3, ![2, 16384, 512]⟩
abbrev S2x16384x128 : Shape := ⟨3, ![2, 16384, 128]⟩
abbrev S8 : Shape := ⟨1, ![8]⟩
abbrev S_ : Shape := ⟨0, ![]⟩
abbrev S2x24x16384x128 : Shape := ⟨4, ![2, 24, 16384, 128]⟩
abbrev S2x16384x8x64 : Shape := ⟨4, ![2, 16384, 8, 64]⟩
abbrev S2x8x16384x64 : Shape := ⟨4, ![2, 8, 16384, 64]⟩
abbrev S2x8x16384x128 : Shape := ⟨4, ![2, 8, 16384, 128]⟩
abbrev S2x16384x2x64 : Shape := ⟨4, ![2, 16384, 2, 64]⟩
abbrev S2x2x16384x64 : Shape := ⟨4, ![2, 2, 16384, 64]⟩
abbrev S2x2x16384x128 : Shape := ⟨4, ![2, 2, 16384, 128]⟩
abbrev S2x60x16384x128 : Shape := ⟨4, ![2, 60, 16384, 128]⟩
abbrev S1x4x512x128 : Shape := ⟨4, ![1, 4, 512, 128]⟩
abbrev S1x1x16384x128 : Shape := ⟨4, ![1, 1, 16384, 128]⟩
abbrev S1x512x256 : Shape := ⟨3, ![1, 512, 256]⟩
abbrev S128x256 : Shape := ⟨2, ![128, 256]⟩
abbrev S1x1x256x128 : Shape := ⟨4, ![1, 1, 256, 128]⟩
abbrev S256x128 : Shape := ⟨2, ![256, 128]⟩
abbrev S1x1x128x128 : Shape := ⟨4, ![1, 1, 128, 128]⟩
abbrev S128x128 : Shape := ⟨2, ![128, 128]⟩
abbrev S1 : Shape := ⟨1, ![1]⟩
abbrev S128 : Shape := ⟨1, ![128]⟩
abbrev S128x1 : Shape := ⟨2, ![128, 1]⟩
abbrev S128x64 : Shape := ⟨2, ![128, 64]⟩
abbrev S1x128x64 : Shape := ⟨3, ![1, 128, 64]⟩

abbrev nBuf : Space → Nat
  | .hbm => 41
  | .vmem => 8
  | .smem => 2
  | _ => 0

abbrev bufTy : (tb : Table) → Fin (tcTables nBuf tb) → BufTy
  | .hbm, ⟨0, _⟩ => ⟨S2x16384x512, .f32⟩
  | .hbm, ⟨1, _⟩ => ⟨S2x16384x128, .f32⟩
  | .hbm, ⟨2, _⟩ => ⟨S2x16384x128, .f32⟩
  | .hbm, ⟨3, _⟩ => ⟨S8, .f32⟩
  | .hbm, ⟨4, _⟩ => ⟨S_, .bf16⟩
  | .hbm, ⟨5, _⟩ => ⟨S2x24x16384x128, .bf16⟩
  | .hbm, ⟨6, _⟩ => ⟨S_, .bf16⟩
  | .hbm, ⟨7, _⟩ => ⟨S2x24x16384x128, .bf16⟩
  | .hbm, ⟨8, _⟩ => ⟨S2x16384x8x64, .f32⟩
  | .hbm, ⟨9, _⟩ => ⟨S2x8x16384x64, .f32⟩
  | .hbm, ⟨10, _⟩ => ⟨S_, .f32⟩
  | .hbm, ⟨11, _⟩ => ⟨S2x8x16384x64, .f32⟩
  | .hbm, ⟨12, _⟩ => ⟨S2x8x16384x128, .f32⟩
  | .hbm, ⟨13, _⟩ => ⟨S2x8x16384x128, .bf16⟩
  | .hbm, ⟨14, _⟩ => ⟨S2x16384x2x64, .f32⟩
  | .hbm, ⟨15, _⟩ => ⟨S2x2x16384x64, .f32⟩
  | .hbm, ⟨16, _⟩ => ⟨S_, .f32⟩
  | .hbm, ⟨17, _⟩ => ⟨S2x2x16384x64, .f32⟩
  | .hbm, ⟨18, _⟩ => ⟨S2x2x16384x128, .f32⟩
  | .hbm, ⟨19, _⟩ => ⟨S2x2x16384x128, .bf16⟩
  | .hbm, ⟨20, _⟩ => ⟨S2x16384x2x64, .f32⟩
  | .hbm, ⟨21, _⟩ => ⟨S2x2x16384x64, .f32⟩
  | .hbm, ⟨22, _⟩ => ⟨S_, .f32⟩
  | .hbm, ⟨23, _⟩ => ⟨S2x2x16384x64, .f32⟩
  | .hbm, ⟨24, _⟩ => ⟨S2x2x16384x128, .f32⟩
  | .hbm, ⟨25, _⟩ => ⟨S2x2x16384x128, .bf16⟩
  | .hbm, ⟨26, _⟩ => ⟨S2x60x16384x128, .bf16⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S2x16384x512, .bf16⟩
  | .local _ .vmem, ⟨0, _⟩ => ⟨S1x4x512x128, .bf16⟩
  | .local _ .vmem, ⟨1, _⟩ => ⟨S1x4x512x128, .bf16⟩
  | .local _ .vmem, ⟨2, _⟩ => ⟨S1x1x16384x128, .bf16⟩
  | .local _ .vmem, ⟨3, _⟩ => ⟨S1x1x16384x128, .bf16⟩
  | .local _ .vmem, ⟨4, _⟩ => ⟨S1x1x16384x128, .bf16⟩
  | .local _ .vmem, ⟨5, _⟩ => ⟨S1x1x16384x128, .bf16⟩
  | .local _ .vmem, ⟨6, _⟩ => ⟨S1x512x256, .bf16⟩
  | .local _ .vmem, ⟨7, _⟩ => ⟨S1x512x256, .bf16⟩
  | .local _ .smem, ⟨0, _⟩ => ⟨S8, .f32⟩
  | .local _ .smem, ⟨1, _⟩ => ⟨S8, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c512_i32 : BitVec 32 := 512#32
  let v2 : BitVec 32 := Scalar.muli arg2 c512_i32
  let c0_i32 : BitVec 32 := 0#32
  let v3 : BitVec 32 := Scalar.addi v2 c0_i32
  let c128_i32 : BitVec 32 := 128#32
  let v4 : BitVec 32 := Scalar.subi v3 c128_i32
  let c0_i32_0 : BitVec 32 := 0#32
  let v5 : BitVec 32 := Scalar.maxsi v4 c0_i32_0
  v5
def k0_off1 (i : grid0.Coords) (c0_i32 : BitVec 32) : Fin 4 → Nat :=
  let c0 : Index := 0#32
  let c0_1 : Index := 0#32
  let arg2 : BitVec 32 := BitVec.ofNat 32 (i 2).val
  let c512_i32 : BitVec 32 := 512#32
  let v2 : BitVec 32 := Scalar.muli arg2 c512_i32
  let v3 : BitVec 32 := Scalar.addi v2 c0_i32
  let c128_i32 : BitVec 32 := 128#32
  let v4 : BitVec 32 := Scalar.subi v3 c128_i32
  let c0_i32_0 : BitVec 32 := 0#32
  let v5 : BitVec 32 := Scalar.maxsi v4 c0_i32_0
  let v6 : BitVec 32 := v5
  let v7 : Index := Scalar.indexCast v6
  let c0_2 : Index := 0#32
  ![0, 0, v7.toNat, 0]
def k0_off2 (i : grid0.Coords) (c0_i32_8 : BitVec 32) : Fin 1 → Nat :=
  let arg1 : BitVec 32 := BitVec.ofNat 32 (i 1).val
  let c4_i32 : BitVec 32 := 4#32
  let v23 : BitVec 32 := Scalar.muli arg1 c4_i32
  let v24 : BitVec 32 := Scalar.addi v23 c0_i32_8
  let v30 : Index := Scalar.indexCast v24
  ![v30.toNat]
def k0_mult2 (i : grid0.Coords) : BitVec 32 :=
  let arg2 : BitVec 32 := BitVec.ofNat 32 (i 2).val
  let c512_i32_57 : BitVec 32 := 512#32
  let v175 : BitVec 32 := Scalar.muli arg2 c512_i32_57
  let c128_i32_58 : BitVec 32 := 128#32
  let v176 : BitVec 32 := Scalar.addi v175 c128_i32_58
  let c128_i32_59 : BitVec 32 := 128#32
  let v177 : BitVec 32 := Scalar.subi v176 c128_i32_59
  let c0_i32_60 : BitVec 32 := 0#32
  let v178 : BitVec 32 := Scalar.maxsi v177 c0_i32_60
  v178
def k0_mult3 (i : grid0.Coords) : BitVec 32 :=
  let arg2 : BitVec 32 := BitVec.ofNat 32 (i 2).val
  let c512_i32_129 : BitVec 32 := 512#32
  let v348 : BitVec 32 := Scalar.muli arg2 c512_i32_129
  let c256_i32 : BitVec 32 := 256#32
  let v349 : BitVec 32 := Scalar.addi v348 c256_i32
  let c128_i32_130 : BitVec 32 := 128#32
  let v350 : BitVec 32 := Scalar.subi v349 c128_i32_130
  let c0_i32_131 : BitVec 32 := 0#32
  let v351 : BitVec 32 := Scalar.maxsi v350 c0_i32_131
  v351
def k0_mult4 (i : grid0.Coords) : BitVec 32 :=
  let arg2 : BitVec 32 := BitVec.ofNat 32 (i 2).val
  let c512_i32_199 : BitVec 32 := 512#32
  let v521 : BitVec 32 := Scalar.muli arg2 c512_i32_199
  let c384_i32 : BitVec 32 := 384#32
  let v522 : BitVec 32 := Scalar.addi v521 c384_i32
  let c128_i32_200 : BitVec 32 := 128#32
  let v523 : BitVec 32 := Scalar.subi v522 c128_i32_200
  let c0_i32_201 : BitVec 32 := 0#32
  let v524 : BitVec 32 := Scalar.maxsi v523 c0_i32_201
  v524
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![arg0.toNat, v0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.addi c34_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x16384x512 : Shape := ⟨3, ![2, 16384, 512]⟩
abbrev S2x16384x128 : Shape := ⟨3, ![2, 16384, 128]⟩
abbrev S8 : Shape := ⟨1, ![8]⟩
abbrev S2x16384x8x64 : Shape := ⟨4, ![2, 16384, 8, 64]⟩
abbrev S2x8x16384x64 : Shape := ⟨4, ![2, 8, 16384, 64]⟩
abbrev S2x16384x2x64 : Shape := ⟨4, ![2, 16384, 2, 64]⟩
abbrev S2x2x16384x64 : Shape := ⟨4, ![2, 2, 16384, 64]⟩
abbrev S_ : Shape := ⟨0, ![]⟩
abbrev S2x2x4x128x128x64 : Shape := ⟨6, ![2, 2, 4, 128, 128, 64]⟩
abbrev S2x2x128x128x64 : Shape := ⟨5, ![2, 2, 128, 128, 64]⟩
abbrev S2x2x1x128x64 : Shape := ⟨5, ![2, 2, 1, 128, 64]⟩
abbrev S2x2x127x128x64 : Shape := ⟨5, ![2, 2, 127, 128, 64]⟩
abbrev S2x2x128x256x64 : Shape := ⟨5, ![2, 2, 128, 256, 64]⟩
abbrev S2x2x128x256x4x128 : Shape := ⟨6, ![2, 2, 128, 256, 4, 128]⟩
abbrev S2x2x4x128x128x256 : Shape := ⟨6, ![2, 2, 4, 128, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S2x4 : Shape := ⟨2, ![2, 4]⟩
abbrev S1x2x4x1x1x1 : Shape := ⟨6, ![1, 2, 4, 1, 1, 1]⟩
abbrev S1x1x1x1x128x256 : Shape := ⟨6, ![1, 1, 1, 1, 128, 256]⟩
abbrev S1x2x4x1x128x256 : Shape := ⟨6, ![1, 2, 4, 1, 128, 256]⟩
abbrev S2x2x4x128x128 : Shape := ⟨5, ![2, 2, 4, 128, 128]⟩
abbrev S2x2x4x128x128x1 : Shape := ⟨6, ![2, 2, 4, 128, 128, 1]⟩
abbrev S2x2x128x64x4x128 : Shape := ⟨6, ![2, 2, 128, 64, 4, 128]⟩

abbrev nBuf : Space → Nat
  | .hbm => 116
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x128, .f32⟩
  | .hbm, ⟨2, _⟩ => ⟨S2x16384x128, .f32⟩
  | .hbm, ⟨3, _⟩ => ⟨S8, .f32⟩
  | .hbm, ⟨4, _⟩ => ⟨S2x16384x8x64, .f32⟩
  | .hbm, ⟨5, _⟩ => ⟨S2x8x16384x64, .f32⟩
  | .hbm, ⟨6, _⟩ => ⟨S2x16384x2x64, .f32⟩
  | .hbm, ⟨7, _⟩ => ⟨S2x2x16384x64, .f32⟩
  | .hbm, ⟨8, _⟩ => ⟨S2x16384x2x64, .f32⟩
  | .hbm, ⟨9, _⟩ => ⟨S2x2x16384x64, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S2x2x4x128x128x64, .f32⟩
  | .hbm, ⟨24, _⟩ => ⟨S2x2x128x128x64, .f32⟩
  | .hbm, ⟨25, _⟩ => ⟨S2x2x128x128x64, .f32⟩
  | .hbm, ⟨26, _⟩ => ⟨S2x2x1x128x64, .f32⟩
  | .hbm, ⟨27, _⟩ => ⟨S_, .f32⟩
  | .hbm, ⟨28, _⟩ => ⟨S2x2x1x128x64, .f32⟩
  | .hbm, ⟨29, _⟩ => ⟨S2x2x127x128x64, .f32⟩
  | .hbm, ⟨30, _⟩ => ⟨S2x2x128x128x64, .f32⟩
  | .hbm, ⟨31, _⟩ => ⟨S2x2x1x128x64, .f32⟩
  | .hbm, ⟨32, _⟩ => ⟨S_, .f32⟩
  | .hbm, ⟨33, _⟩ => ⟨S2x2x1x128x64, .f32⟩
  | .hbm, ⟨34, _⟩ => ⟨S2x2x127x128x64, .f32⟩
  | .hbm, ⟨35, _⟩ => ⟨S2x2x128x128x64, .f32⟩
  | .hbm, ⟨36, _⟩ => ⟨S2x2x128x256x64, .f32⟩
  | .hbm, ⟨37, _⟩ => ⟨S2x2x128x256x64, .f32⟩
  | .hbm, ⟨38, _⟩ => ⟨S2x2x128x256x4x128, .f32⟩
  | .hbm, ⟨39, _⟩ => ⟨S2x2x4x128x128x256, .f32⟩
  | .hbm, ⟨40, _⟩ => ⟨S_, .f32⟩
  | .hbm, ⟨41, _⟩ => ⟨S2x2x4x128x128x256, .f32⟩
  | .hbm, ⟨42, _⟩ => ⟨S2x2x4x128x128x256, .f32⟩
  | .hbm, ⟨43, _⟩ => ⟨S128, .i32⟩
  | .hbm, ⟨44, _⟩ => ⟨S_, .i32⟩
  | .hbm, ⟨45, _⟩ => ⟨S128, .i32⟩
  | .hbm, ⟨46, _⟩ => ⟨S128, .i32⟩
  | .hbm, ⟨47, _⟩ => ⟨S128x1, .i32⟩
  | .hbm, ⟨48, _⟩ => ⟨S256, .i32⟩
  | .hbm, ⟨49, _⟩ => ⟨S1x256, .i32⟩
  | .hbm, ⟨50, _⟩ => ⟨S128x256, .i32⟩
  | .hbm, ⟨51, _⟩ => ⟨S128x256, .i32⟩
  | .hbm, ⟨52, _⟩ => ⟨S128x256, .i32⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S_, .i32⟩
  | .hbm, ⟨57, _⟩ => ⟨S128x256, .i32⟩
  | .hbm, ⟨58, _⟩ => ⟨S128x256, .i1⟩
  | .hbm, ⟨59, _⟩ => ⟨S128x256, .i1⟩
  | .hbm, ⟨60, _⟩ => ⟨S128, .i32⟩
  | .hbm, ⟨61, _⟩ => ⟨S128x1x1, .i32⟩
  | .hbm, ⟨62, _⟩ => ⟨S_, .i32⟩
  | .hbm, ⟨63, _⟩ => ⟨S128x1x1, .i32⟩
  | .hbm, ⟨64, _⟩ => ⟨S128x1x1, .i1⟩
  | .hbm, ⟨65, _⟩ => ⟨S256, .i32⟩
  | .hbm, ⟨66, _⟩ => ⟨S1x1x256, .i32⟩
  | .hbm, ⟨67, _⟩ => ⟨S_, .i32⟩
  | .hbm, ⟨68, _⟩ => ⟨S1x1x256, .i32⟩
  | .hbm, ⟨69, _⟩ => ⟨S1x1x256, .i1⟩
  | .hbm, ⟨70, _⟩ => ⟨S128x1x256, .i1⟩
  | .hbm, ⟨71, _⟩ => ⟨S128x1x256, .i1⟩
  | .hbm, ⟨72, _⟩ => ⟨S128x1x256, .i1⟩
  | .hbm, ⟨73, _⟩ => ⟨S1x128x256, .i1⟩
  | .hbm, ⟨74, _⟩ => ⟨S128x128x256, .i1⟩
  | .hbm, ⟨75, _⟩ => ⟨S128x128x256, .i1⟩
  | .hbm, ⟨76, _⟩ => ⟨S128x128x256, .i1⟩
  | .hbm, ⟨77, _⟩ => ⟨S2x4, .f32⟩
  | .hbm, ⟨78, _⟩ => ⟨S1x2x4x1x1x1, .f32⟩
  | .hbm, ⟨79, _⟩ => ⟨S128x256, .f32⟩
  | .hbm, ⟨80, _⟩ => ⟨S1x1x1x1x128x256, .f32⟩
  | .hbm, ⟨81, _⟩ => ⟨S1x2x4x1x128x256, .f32⟩
  | .hbm, ⟨82, _⟩ => ⟨S1x2x4x1x128x256, .f32⟩
  | .hbm, ⟨83, _⟩ => ⟨S1x2x4x1x128x256, .f32⟩
  | .hbm, ⟨84, _⟩ => ⟨S2x2x4x128x128x256, .f32⟩
  | .hbm, ⟨85, _⟩ => ⟨S2x2x4x128x128x256, .f32⟩
  | .hbm, ⟨86, _⟩ => ⟨S_, .f32⟩
  | .hbm, ⟨87, _⟩ => ⟨S_, .f32⟩
  | .hbm, ⟨88, _⟩ => ⟨S2x2x4x128x128x256, .i1⟩
  | .hbm, ⟨89, _⟩ => ⟨S2x2x4x128x128x256, .f32⟩
  | .hbm, ⟨90, _⟩ => ⟨S2x2x4x128x128x256, .f32⟩
  | .hbm, ⟨91, _⟩ => ⟨S2x4, .f32⟩
  | .hbm, ⟨92, _⟩ => ⟨S1x2x4x1x1x1, .f32⟩
  | .hbm, ⟨93, _⟩ => ⟨S_, .f32⟩
  | .hbm, ⟨94, _⟩ => ⟨S2x2x4x128x128, .f32⟩
  | .hbm, ⟨95, _⟩ => ⟨S2x2x4x128x128x1, .f32⟩
  | .hbm, ⟨96, _⟩ => ⟨S2x2x4x128x128x1, .f32⟩
  | .hbm, ⟨97, _⟩ => ⟨S2x2x4x128x128x1, .f32⟩
  | .hbm, ⟨98, _⟩ => ⟨S2x2x4x128x128x256, .f32⟩
  | .hbm, ⟨99, _⟩ => ⟨S2x2x4x128x128x256, .f32⟩
  | .hbm, ⟨100, _⟩ => ⟨S2x2x4x128x128x256, .f32⟩
  | .hbm, ⟨101, _⟩ => ⟨S_, .f32⟩
  | .hbm, ⟨102, _⟩ => ⟨S2x2x4x128x128, .f32⟩
  | .hbm, ⟨103, _⟩ => ⟨S2x2x4x128x128x1, .f32⟩
  | .hbm, ⟨104, _⟩ => ⟨S2x2x4x128x128x1, .f32⟩
  | .hbm, ⟨105, _⟩ => ⟨S2x2x4x128x128x1, .f32⟩
  | .hbm, ⟨106, _⟩ => ⟨S2x2x4x128x128x1, .f32⟩
  | .hbm, ⟨107, _⟩ => ⟨S2x2x4x128x128x1, .f32⟩
  | .hbm, ⟨108, _⟩ => ⟨S2x2x4x128x128x256, .f32⟩
  | .hbm, ⟨109, _⟩ => ⟨S2x2x4x128x128x256, .f32⟩
  | .hbm, ⟨110, _⟩ => ⟨S2x2x128x64x4x128, .f32⟩
  | .hbm, ⟨111, _⟩ => ⟨S2x2x4x128x128x64, .f32⟩
  | .hbm, ⟨112, _⟩ => ⟨S2x8x16384x64, .f32⟩
  | .hbm, ⟨113, _⟩ => ⟨S2x16384x8x64, .f32⟩
  | .hbm, ⟨114, _⟩ => ⟨S2x16384x512, .f32⟩
  | .hbm, ⟨115, _⟩ => ⟨S2x16384x512, .bf16⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_6 : Ref sig .tc := ⟨.hbm, 53, rfl⟩
abbrev main_v41 : Ref sig .tc := ⟨.hbm, 54, rfl⟩
abbrev main_v42 : Ref sig .tc := ⟨.hbm, 55, rfl⟩
abbrev main_c_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_10 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_12 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩

abbrev nD : Nat := 1
abbrev τ : Topo := Topo.v7x

variable {F : FTy → Type} [FloatOps F]
-- ==== Kernel2.lean ====
abbrev S2x16384x2048 : Shape := ⟨3, ![2, 16384, 2048]⟩
abbrev S2x16384x512 : Shape := ⟨3, ![2, 16384, 512]⟩
abbrev S512x2048 : Shape := ⟨2, ![512, 2048]⟩
abbrev S2048x2048 : Shape := ⟨2, ![2048, 2048]⟩
abbrev S2048 : Shape := ⟨1, ![2048]⟩
abbrev S2x16384x7680 : Shape := ⟨3, ![2, 16384, 7680]⟩
abbrev S32768x7680 : Shape := ⟨2, ![32768, 7680]⟩
abbrev S1x512x2048 : Shape := ⟨3, ![1, 512, 2048]⟩
abbrev S3x512x2048 : Shape := ⟨3, ![3, 512, 2048]⟩
abbrev S32768x2048 : Shape := ⟨2, ![32768, 2048]⟩
abbrev S32768x512 : Shape := ⟨2, ![32768, 512]⟩
abbrev S1x2048 : Shape := ⟨2, ![1, 2048]⟩
abbrev S512x7680 : Shape := ⟨2, ![512, 7680]⟩
abbrev S512x512 : Shape := ⟨2, ![512, 512]⟩
abbrev S512 : Shape := ⟨1, ![512]⟩
abbrev S512x1 : Shape := ⟨2, ![512, 1]⟩

abbrev nBuf : Space → Nat
  | .hbm => 35
  | .vmem => 16
  | .smem => 0
  | _ => 0

abbrev bufTy : (tb : Table) → Fin (tcTables nBuf tb) → BufTy
  | .hbm, ⟨0, _⟩ => ⟨S2x16384x2048, .f32⟩
  | .hbm, ⟨1, _⟩ => ⟨S2x16384x512, .f32⟩
  | .hbm, ⟨2, _⟩ => ⟨S2x16384x512, .f32⟩
  | .hbm, ⟨3, _⟩ => ⟨S2x16384x512, .f32⟩
  | .hbm, ⟨4, _⟩ => ⟨S2x16384x2048, .f32⟩
  | .hbm, ⟨5, _⟩ => ⟨S2x16384x2048, .f32⟩
  | .hbm, ⟨6, _⟩ => ⟨S2x16384x2048, .f32⟩
  | .hbm, ⟨7, _⟩ => ⟨S2x16384x512, .f32⟩
  | .hbm, ⟨8, _⟩ => ⟨S2x16384x512, .f32⟩
  | .hbm, ⟨9, _⟩ => ⟨S2x16384x512, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S2048x2048, .f32⟩
  | .hbm, ⟨14, _⟩ => ⟨S2048, .f32⟩
  | .hbm, ⟨15, _⟩ => ⟨S2048, .f32⟩
  | .hbm, ⟨16, _⟩ => ⟨S2x16384x7680, .f32⟩
  | .hbm, ⟨17, _⟩ => ⟨S2x16384x7680, .bf16⟩
  | .hbm, ⟨18, _⟩ => ⟨S32768x7680, .bf16⟩
  | .hbm, ⟨19, _⟩ => ⟨S1x512x2048, .f32⟩
  | .hbm, ⟨20, _⟩ => ⟨S1x512x2048, .f32⟩
  | .hbm, ⟨21, _⟩ => ⟨S1x512x2048, .f32⟩
  | .hbm, ⟨22, _⟩ => ⟨S3x512x2048, .f32⟩
  | .hbm, ⟨23, _⟩ => ⟨S32768x2048, .f32⟩
  | .hbm, ⟨24, _⟩ => ⟨S2x16384x512, .bf16⟩
  | .hbm, ⟨25, _⟩ => ⟨S32768x512, .bf16⟩
  | .hbm, ⟨26, _⟩ => ⟨S2x16384x512, .bf16⟩
  | .hbm, ⟨27, _⟩ => ⟨S32768x512, .bf16⟩
  | .hbm, ⟨28, _⟩ => ⟨S2x16384x512, .bf16⟩
  | .hbm, ⟨29, _⟩ => ⟨S32768x512, .bf16⟩
  | .hbm, ⟨30, _⟩ => ⟨S3x512x2048, .bf16⟩
  | .hbm, ⟨31, _⟩ => ⟨S2048x2048, .bf16⟩
  | .hbm, ⟨32, _⟩ => ⟨S1x2048, .f32⟩
  | .hbm, ⟨33, _⟩ => ⟨S1x2048, .f32⟩
  | .hbm, ⟨34, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x7680, .bf16⟩
  | .local _ .vmem, ⟨3, _⟩ => ⟨S512x7680, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S3x512x2048, .bf16⟩
  | .local _ .vmem, ⟨11, _⟩ => ⟨S2048x2048, .bf16⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x7680 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S2x16384x2048 : Shape := ⟨3, ![2, 16384, 2048]⟩
abbrev S2x16384x512 : Shape := ⟨3, ![2, 16384, 512]⟩
abbrev S512x2048 : Shape := ⟨2, ![512, 2048]⟩
abbrev S2048x2048 : Shape := ⟨2, ![2048, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 62
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x512, .f32⟩
  | .hbm, ⟨2, _⟩ => ⟨S2x16384x512, .f32⟩
  | .hbm, ⟨3, _⟩ => ⟨S2x16384x512, .f32⟩
  | .hbm, ⟨4, _⟩ => ⟨S2x16384x2048, .f32⟩
  | .hbm, ⟨5, _⟩ => ⟨S2x16384x2048, .f32⟩
  | .hbm, ⟨6, _⟩ => ⟨S2x16384x2048, .f32⟩
  | .hbm, ⟨7, _⟩ => ⟨S2x16384x512, .f32⟩
  | .hbm, ⟨8, _⟩ => ⟨S2x16384x512, .f32⟩
  | .hbm, ⟨9, _⟩ => ⟨S2x16384x512, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S2048x2048, .f32⟩
  | .hbm, ⟨14, _⟩ => ⟨S2048, .f32⟩
  | .hbm, ⟨15, _⟩ => ⟨S2048, .f32⟩
  | .hbm, ⟨16, _⟩ => ⟨S2x16384x512, .f32⟩
  | .hbm, ⟨17, _⟩ => ⟨S2x16384x2048, .f32⟩
  | .hbm, ⟨18, _⟩ => ⟨S2x16384x512, .f32⟩
  | .hbm, ⟨19, _⟩ => ⟨S2x16384x2048, .f32⟩
  | .hbm, ⟨20, _⟩ => ⟨S2x16384x512, .f32⟩
  | .hbm, ⟨21, _⟩ => ⟨S2x16384x2048, .f32⟩
  | .hbm, ⟨22, _⟩ => ⟨S2x16384x2048, .f32⟩
  | .hbm, ⟨23, _⟩ => ⟨S2x16384x2048, .f32⟩
  | .hbm, ⟨24, _⟩ => ⟨S2x16384x2048, .f32⟩
  | .hbm, ⟨25, _⟩ => ⟨S2x16384x2048, .f32⟩
  | .hbm, ⟨26, _⟩ => ⟨S2x16384x2048, .f32⟩
  | .hbm, ⟨27, _⟩ => ⟨S2x16384x2048, .f32⟩
  | .hbm, ⟨28, _⟩ => ⟨S_, .f32⟩
  | .hbm, ⟨29, _⟩ => ⟨S2x16384x2048, .f32⟩
  | .hbm, ⟨30, _⟩ => ⟨S2x16384x2048, .f32⟩
  | .hbm, ⟨31, _⟩ => ⟨S2x16384x2048, .f32⟩
  | .hbm, ⟨32, _⟩ => ⟨S_, .f32⟩
  | .hbm, ⟨33, _⟩ => ⟨S2x16384, .f32⟩
  | .hbm, ⟨34, _⟩ => ⟨S2x16384x1, .f32⟩
  | .hbm, ⟨35, _⟩ => ⟨S_, .f32⟩
  | .hbm, ⟨36, _⟩ => ⟨S2x16384x1, .f32⟩
  | .hbm, ⟨37, _⟩ => ⟨S2x16384x1, .f32⟩
  | .hbm, ⟨38, _⟩ => ⟨S2x16384x2048, .f32⟩
  | .hbm, ⟨39, _⟩ => ⟨S2x16384x2048, .f32⟩
  | .hbm, ⟨40, _⟩ => ⟨S2x16384x2048, .f32⟩
  | .hbm, ⟨41, _⟩ => ⟨S_, .f32⟩
  | .hbm, ⟨42, _⟩ => ⟨S2x16384, .f32⟩
  | .hbm, ⟨43, _⟩ => ⟨S2x16384x1, .f32⟩
  | .hbm, ⟨44, _⟩ => ⟨S_, .f32⟩
  | .hbm, ⟨45, _⟩ => ⟨S2x16384x1, .f32⟩
  | .hbm, ⟨46, _⟩ => ⟨S2x16384x1, .f32⟩
  | .hbm, ⟨47, _⟩ => ⟨S2x16384x2048, .f32⟩
  | .hbm, ⟨48, _⟩ => ⟨S2x16384x2048, .f32⟩
  | .hbm, ⟨49, _⟩ => ⟨S_, .f32⟩
  | .hbm, ⟨50, _⟩ => ⟨S2x16384x1, .f32⟩
  | .hbm, ⟨51, _⟩ => ⟨S2x16384x1, .f32⟩
  | .hbm, ⟨52, _⟩ => ⟨S2x16384x1, .f32⟩
  | .hbm, ⟨53, _⟩ => ⟨S2x16384x2048, .f32⟩
  | .hbm, ⟨54, _⟩ => ⟨S2x16384x2048, .f32⟩
  | .hbm, ⟨55, _⟩ => ⟨S1x1x2048, .f32⟩
  | .hbm, ⟨56, _⟩ => ⟨S2x16384x2048, .f32⟩
  | .hbm, ⟨57, _⟩ => ⟨S2x16384x2048, .f32⟩
  | .hbm, ⟨58, _⟩ => ⟨S1x1x2048, .f32⟩
  | .hbm, ⟨59, _⟩ => ⟨S2x16384x2048, .f32⟩
  | .hbm, ⟨60, _⟩ => ⟨S2x16384x2048, .f32⟩
  | .hbm, ⟨61, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Kernel3.lean ====
abbrev S2x16384x2048 : Shape := ⟨3, ![2, 16384, 2048]⟩
abbrev S2048x11528 : Shape := ⟨2, ![2048, 11528]⟩
abbrev S11528 : Shape := ⟨1, ![11528]⟩
abbrev S32768x2048 : Shape := ⟨2, ![32768, 2048]⟩
abbrev S2048x512 : Shape := ⟨2, ![2048, 512]⟩
abbrev S2048x2048 : Shape := ⟨2, ![2048, 2048]⟩
abbrev S2048x7680 : Shape := ⟨2, ![2048, 7680]⟩
abbrev S512 : Shape := ⟨1, ![512]⟩
abbrev S2048 : Shape := ⟨1, ![2048]⟩
abbrev S7680 : Shape := ⟨1, ![7680]⟩
abbrev S1x7680 : Shape := ⟨2, ![1, 7680]⟩
abbrev S32768x7680 : Shape := ⟨2, ![32768, 7680]⟩
abbrev S1024x2048 : Shape := ⟨2, ![1024, 2048]⟩
abbrev S2048x1536 : Shape := ⟨2, ![2048, 1536]⟩
abbrev S1x1536 : Shape := ⟨2, ![1, 1536]⟩
abbrev S1024x1536 : Shape := ⟨2, ![1024, 1536]⟩

abbrev nBuf : Space → Nat
  | .hbm => 21
  | .vmem => 9
  | .smem => 0
  | _ => 0

abbrev bufTy : (tb : Table) → Fin (tcTables nBuf tb) → BufTy
  | .hbm, ⟨0, _⟩ => ⟨S2x16384x2048, .f32⟩
  | .hbm, ⟨1, _⟩ => ⟨S2048x11528, .f32⟩
  | .hbm, ⟨2, _⟩ => ⟨S11528, .f32⟩
  | .hbm, ⟨3, _⟩ => ⟨S32768x2048, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x7680, .f32⟩
  | .hbm, ⟨11, _⟩ => ⟨S2048x7680, .bf16⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S2048, .f32⟩
  | .hbm, ⟨16, _⟩ => ⟨S2048, .f32⟩
  | .hbm, ⟨17, _⟩ => ⟨S2048, .f32⟩
  | .hbm, ⟨18, _⟩ => ⟨S7680, .f32⟩
  | .hbm, ⟨19, _⟩ => ⟨S1x7680, .f32⟩
  | .hbm, ⟨20, _⟩ => ⟨S32768x7680, .bf16⟩
  | .local _ .vmem, ⟨0, _⟩ => ⟨S1024x2048, .f32⟩
  | .local _ .vmem, ⟨1, _⟩ => ⟨S1024x2048, .f32⟩
  | .local _ .vmem, ⟨2, _⟩ => ⟨S2048x1536, .bf16⟩
  | .local _ .vmem, ⟨3, _⟩ => ⟨S2048x1536, .bf16⟩
  | .local _ .vmem, ⟨4, _⟩ => ⟨S1x1536, .f32⟩
  | .local _ .vmem, ⟨5, _⟩ => ⟨S1x1536, .f32⟩
  | .local _ .vmem, ⟨6, _⟩ => ⟨S1024x1536, .bf16⟩
  | .local _ .vmem, ⟨7, _⟩ => ⟨S1024x1536, .bf16⟩
  | .local _ .vmem, ⟨8, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x16384x2048 : Shape := ⟨3, ![2, 16384, 2048]⟩
abbrev S2048x11528 : Shape := ⟨2, ![2048, 11528]⟩
abbrev S11528 : Shape := ⟨1, ![11528]⟩
abbrev S2x16384x11528 : Shape := ⟨3, ![2, 16384, 11528]⟩
abbrev S1x1x11528 : Shape := ⟨3, ![1, 1, 11528]⟩
abbrev S2x16384x512 : Shape := ⟨3, ![2, 16384, 512]⟩
abbrev S2x16384x8 : Shape := ⟨3, ![2, 16384, 8]⟩
abbrev S2x16384x128 : Shape := ⟨3, ![2, 16384, 128]⟩
abbrev S_ : Shape := ⟨0, ![]⟩
abbrev S2x16384x7680 : Shape := ⟨3, ![2, 16384, 7680]⟩
abbrev S32768x7680 : Shape := ⟨2, ![32768, 7680]⟩

abbrev nBuf : Space → Nat
  | .hbm => 77
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x11528, .f32⟩
  | .hbm, ⟨2, _⟩ => ⟨S11528, .f32⟩
  | .hbm, ⟨3, _⟩ => ⟨S2x16384x11528, .f32⟩
  | .hbm, ⟨4, _⟩ => ⟨S1x1x11528, .f32⟩
  | .hbm, ⟨5, _⟩ => ⟨S2x16384x11528, .f32⟩
  | .hbm, ⟨6, _⟩ => ⟨S2x16384x11528, .f32⟩
  | .hbm, ⟨7, _⟩ => ⟨S2x16384x512, .f32⟩
  | .hbm, ⟨8, _⟩ => ⟨S2x16384x512, .f32⟩
  | .hbm, ⟨9, _⟩ => ⟨S2x16384x512, .f32⟩
  | .hbm, ⟨10, _⟩ => ⟨S2x16384x512, .f32⟩
  | .hbm, ⟨11, _⟩ => ⟨S2x16384x8, .f32⟩
  | .hbm, ⟨12, _⟩ => ⟨S2x16384x512, .f32⟩
  | .hbm, ⟨13, _⟩ => ⟨S2x16384x128, .f32⟩
  | .hbm, ⟨14, _⟩ => ⟨S2x16384x128, .f32⟩
  | .hbm, ⟨15, _⟩ => ⟨S2x16384x512, .f32⟩
  | .hbm, ⟨16, _⟩ => ⟨S2x16384x512, .f32⟩
  | .hbm, ⟨17, _⟩ => ⟨S2x16384x512, .f32⟩
  | .hbm, ⟨18, _⟩ => ⟨S2x16384x512, .f32⟩
  | .hbm, ⟨19, _⟩ => ⟨S2x16384x512, .f32⟩
  | .hbm, ⟨20, _⟩ => ⟨S2x16384x2048, .f32⟩
  | .hbm, ⟨21, _⟩ => ⟨S2x16384x2048, .f32⟩
  | .hbm, ⟨22, _⟩ => ⟨S2x16384x2048, .f32⟩
  | .hbm, ⟨23, _⟩ => ⟨S2x16384x512, .f32⟩
  | .hbm, ⟨24, _⟩ => ⟨S2x16384x512, .f32⟩
  | .hbm, ⟨25, _⟩ => ⟨S_, .f32⟩
  | .hbm, ⟨26, _⟩ => ⟨S2x16384x512, .f32⟩
  | .hbm, ⟨27, _⟩ => ⟨S2x16384x512, .f32⟩
  | .hbm, ⟨28, _⟩ => ⟨S_, .f32⟩
  | .hbm, ⟨29, _⟩ => ⟨S2x16384x512, .f32⟩
  | .hbm, ⟨30, _⟩ => ⟨S2x16384x512, .f32⟩
  | .hbm, ⟨31, _⟩ => ⟨S2x16384x512, .f32⟩
  | .hbm, ⟨32, _⟩ => ⟨S2x16384x512, .f32⟩
  | .hbm, ⟨33, _⟩ => ⟨S2x16384x512, .f32⟩
  | .hbm, ⟨34, _⟩ => ⟨S_, .f32⟩
  | .hbm, ⟨35, _⟩ => ⟨S2x16384x512, .f32⟩
  | .hbm, ⟨36, _⟩ => ⟨S2x16384x512, .f32⟩
  | .hbm, ⟨37, _⟩ => ⟨S_, .f32⟩
  | .hbm, ⟨38, _⟩ => ⟨S2x16384x512, .f32⟩
  | .hbm, ⟨39, _⟩ => ⟨S2x16384x512, .f32⟩
  | .hbm, ⟨40, _⟩ => ⟨S2x16384x512, .f32⟩
  | .hbm, ⟨41, _⟩ => ⟨S2x16384x512, .f32⟩
  | .hbm, ⟨42, _⟩ => ⟨S2x16384x512, .f32⟩
  | .hbm, ⟨43, _⟩ => ⟨S_, .f32⟩
  | .hbm, ⟨44, _⟩ => ⟨S2x16384x512, .f32⟩
  | .hbm, ⟨45, _⟩ => ⟨S2x16384x512, .f32⟩
  | .hbm, ⟨46, _⟩ => ⟨S_, .f32⟩
  | .hbm, ⟨47, _⟩ => ⟨S2x16384x512, .f32⟩
  | .hbm, ⟨48, _⟩ => ⟨S2x16384x512, .f32⟩
  | .hbm, ⟨49, _⟩ => ⟨S2x16384x512, .f32⟩
  | .hbm, ⟨50, _⟩ => ⟨S2x16384x2048, .f32⟩
  | .hbm, ⟨51, _⟩ => ⟨S2x16384x2048, .f32⟩
  | .hbm, ⟨52, _⟩ => ⟨S_, .f32⟩
  | .hbm, ⟨53, _⟩ => ⟨S2x16384x2048, .f32⟩
  | .hbm, ⟨54, _⟩ => ⟨S2x16384x2048, .f32⟩
  | .hbm, ⟨55, _⟩ => ⟨S_, .f32⟩
  | .hbm, ⟨56, _⟩ => ⟨S2x16384x2048, .f32⟩
  | .hbm, ⟨57, _⟩ => ⟨S2x16384x2048, .f32⟩
  | .hbm, ⟨58, _⟩ => ⟨S2x16384x2048, .f32⟩
  | .hbm, ⟨59, _⟩ => ⟨S2x16384x2048, .f32⟩
  | .hbm, ⟨60, _⟩ => ⟨S_, .f32⟩
  | .hbm, ⟨61, _⟩ => ⟨S2x16384x2048, .f32⟩
  | .hbm, ⟨62, _⟩ => ⟨S2x16384x2048, .f32⟩
  | .hbm, ⟨63, _⟩ => ⟨S_, .f32⟩
  | .hbm, ⟨64, _⟩ => ⟨S2x16384x2048, .f32⟩
  | .hbm, ⟨65, _⟩ => ⟨S2x16384x2048, .f32⟩
  | .hbm, ⟨66, _⟩ => ⟨S2x16384x2048, .f32⟩
  | .hbm, ⟨67, _⟩ => ⟨S2x16384x2048, .f32⟩
  | .hbm, ⟨68, _⟩ => ⟨S_, .f32⟩
  | .hbm, ⟨69, _⟩ => ⟨S2x16384x2048, .f32⟩
  | .hbm, ⟨70, _⟩ => ⟨S2x16384x2048, .f32⟩
  | .hbm, ⟨71, _⟩ => ⟨S_, .f32⟩
  | .hbm, ⟨72, _⟩ => ⟨S2x16384x2048, .f32⟩
  | .hbm, ⟨73, _⟩ => ⟨S2x16384x2048, .f32⟩
  | .hbm, ⟨74, _⟩ => ⟨S2x16384x7680, .f32⟩
  | .hbm, ⟨75, _⟩ => ⟨S32768x7680, .f32⟩
  | .hbm, ⟨76, _⟩ => ⟨S32768x7680, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v20 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v21 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst : Ref sig .tc := ⟨.hbm, 52, rfl⟩
abbrev main_v25 : Ref sig .tc := ⟨.hbm, 53, rfl⟩
abbrev main_v26 : Ref sig .tc := ⟨.hbm, 54, rfl⟩
abbrev main_cst_0 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_1 : Ref sig .tc := ⟨.hbm, 60, rfl⟩
abbrev main_v31 : Ref sig .tc := ⟨.hbm, 61, rfl⟩
abbrev main_v32 : Ref sig .tc := ⟨.hbm, 62, rfl⟩
abbrev main_cst_2 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_3 : Ref sig .tc := ⟨.hbm, 68, rfl⟩
abbrev main_v37 : Ref sig .tc := ⟨.hbm, 69, rfl⟩
abbrev main_v38 : Ref sig .tc := ⟨.hbm, 70, rfl⟩
abbrev main_cst_4 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩

abbrev nD : Nat := 1
abbrev τ : Topo := Topo.v7x

variable {F : FTy → Type} [FloatOps F]
-- ==== Kernel4.lean ====
abbrev S2x16384x2048 : Shape := ⟨3, ![2, 16384, 2048]⟩
abbrev S2048x11528 : Shape := ⟨2, ![2048, 11528]⟩
abbrev S11528 : Shape := ⟨1, ![11528]⟩
abbrev S2048x512 : Shape := ⟨2, ![2048, 512]⟩
abbrev S2048x128 : Shape := ⟨2, ![2048, 128]⟩
abbrev S2048x3840 : Shape := ⟨2, ![2048, 3840]⟩
abbrev S512 : Shape := ⟨1, ![512]⟩
abbrev S128 : Shape := ⟨1, ![128]⟩
abbrev S3840 : Shape := ⟨1, ![3840]⟩
abbrev S1x3840 : Shape := ⟨2, ![1, 3840]⟩
abbrev S2048x8 : Shape := ⟨2, ![2048, 8]⟩
abbrev S_ : Shape := ⟨0, ![]⟩
abbrev S8 : Shape := ⟨1, ![8]⟩
abbrev S1x128 : Shape := ⟨2, ![1, 128]⟩
abbrev S32768x2048 : Shape := ⟨2, ![32768, 2048]⟩
abbrev S60x64 : Shape := ⟨2, ![60, 64]⟩
abbrev S60x128 : Shape := ⟨2, ![60, 128]⟩
abbrev S1 : Shape := ⟨1, ![1]⟩
abbrev S8x64 : Shape := ⟨2, ![8, 64]⟩
abbrev S2 : Shape := ⟨1, ![2]⟩
abbrev S8x3 : Shape := ⟨2, ![8, 3]⟩
abbrev S8x1 : Shape := ⟨2, ![8, 1]⟩
abbrev S1x7680 : Shape := ⟨2, ![1, 7680]⟩
abbrev S2x60x16384x128 : Shape := ⟨4, ![2, 60, 16384, 128]⟩
abbrev S32768x128 : Shape := ⟨2, ![32768, 128]⟩
abbrev S1024x2048 : Shape := ⟨2, ![1024, 2048]⟩
abbrev S2048x1280 : Shape := ⟨2, ![2048, 1280]⟩
abbrev S1x1280 : Shape := ⟨2, ![1, 1280]⟩
abbrev S1x2560 : Shape := ⟨2, ![1, 2560]⟩
abbrev S1x20x1024x128 : Shape := ⟨4, ![1, 20, 1024, 128]⟩
abbrev S1024x128 : Shape := ⟨2, ![1024, 128]⟩
abbrev S1024x1280 : Shape := ⟨2, ![1024, 1280]⟩
abbrev S1024x1 : Shape := ⟨2, ![1024, 1]⟩
abbrev S1x1x1024x128 : Shape := ⟨4, ![1, 1, 1024, 128]⟩
abbrev S2x60x16384x64 : Shape := ⟨4, ![2, 60, 16384, 64]⟩
abbrev S32768x8 : Shape := ⟨2, ![32768, 8]⟩

abbrev nBuf : Space → Nat
  | .hbm => 142
  | .vmem => 21
  | .smem => 0
  | _ => 0

abbrev hbmTy0_0 (i : Nat) : BufTy := match i % 128 with
  | 0 => ⟨S2x16384x2048, .f32⟩
  | 1 => ⟨S2048x11528, .f32⟩
  | 2 => ⟨S11528, .f32⟩
  | 3 => ⟨S2048x512, .f32⟩
  | 4 => ⟨S2048x512, .f32⟩
  | 5 => ⟨S2048x512, .f32⟩
  | 6 => ⟨S2048x512, .f32⟩
  | 7 => ⟨S2048x128, .f32⟩
  | 8 => ⟨S2048x128, .f32⟩
  | 9 => ⟨S2048x512, .f32⟩
  | 10 => ⟨S2048x512, .f32⟩
  | 11 => ⟨S2048x512, .f32⟩
  | 12 => ⟨S2048x3840, .f32⟩
  | 13 => ⟨S2048x3840, .bf16⟩
  | 14 => ⟨S512, .f32⟩
  | 15 => ⟨S512, .f32⟩
  | 16 => ⟨S512, .f32⟩
  | 17 => ⟨S512, .f32⟩
  | 18 => ⟨S128, .f32⟩
  | 19 => ⟨S128, .f32⟩
  | 20 => ⟨S512, .f32⟩
  | 21 => ⟨S512, .f32⟩
  | 22 => ⟨S512, .f32⟩
  | 23 => ⟨S3840, .f32⟩
  | 24 => ⟨S1x3840, .f32⟩
  | 25 => ⟨S2048x8, .f32⟩
  | 26 => ⟨S_, .i32⟩
  | 27 => ⟨S_, .f32⟩
  | 28 => ⟨S2048x128, .f32⟩
  | 29 => ⟨S2048x128, .bf16⟩
  | 30 => ⟨S8, .f32⟩
  | 31 => ⟨S_, .i32⟩
  | 32 => ⟨S_, .f32⟩
  | 33 => ⟨S128, .f32⟩
  | 34 => ⟨S1x128, .f32⟩
  | 35 => ⟨S32768x2048, .f32⟩
  | 36 => ⟨S_, .f32⟩
  | 37 => ⟨S60x64, .f32⟩
  | 38 => ⟨S_, .f32⟩
  | 39 => ⟨S60x128, .f32⟩
  | 40 => ⟨S_, .f32⟩
  | 41 => ⟨S60x128, .f32⟩
  | 42 => ⟨S_, .f32⟩
  | 43 => ⟨S60x128, .f32⟩
  | 44 => ⟨S_, .i32⟩
  | 45 => ⟨S1, .i32⟩
  | 46 => ⟨S_, .f32⟩
  | 47 => ⟨S8x64, .f32⟩
  | 48 => ⟨S60x64, .f32⟩
  | 49 => ⟨S_, .i32⟩
  | 50 => ⟨S1, .i32⟩
  | 51 => ⟨S_, .f32⟩
  | 52 => ⟨S8x64, .f32⟩
  | 53 => ⟨S60x64, .f32⟩
  | 54 => ⟨S_, .i32⟩
  | 55 => ⟨S1, .i32⟩
  | 56 => ⟨S_, .i32⟩
  | 57 => ⟨S1, .i32⟩
  | 58 => ⟨S2, .i32⟩
  | 59 => ⟨S_, .f32⟩
  | 60 => ⟨S8x3, .f32⟩
  | 61 => ⟨S60x128, .f32⟩
  | 62 => ⟨S_, .i32⟩
  | 63 => ⟨S1, .i32⟩
  | 64 => ⟨S_, .i32⟩
  | 65 => ⟨S1, .i32⟩
  | 66 => ⟨S2, .i32⟩
  | 67 => ⟨S_, .f32⟩
  | 68 => ⟨S8, .f32⟩
  | 69 => ⟨S60x128, .f32⟩
  | 70 => ⟨S_, .i32⟩
  | 71 => ⟨S1, .i32⟩
  | 72 => ⟨S_, .i32⟩
  | 73 => ⟨S1, .i32⟩
  | 74 => ⟨S2, .i32⟩
  | 75 => ⟨S_, .f32⟩
  | 76 => ⟨S8, .f32⟩
  | 77 => ⟨S60x128, .f32⟩
  | 78 => ⟨S8, .f32⟩
  | 79 => ⟨S_, .f32⟩
  | 80 => ⟨S8, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S_, .f32⟩
  | 89 => ⟨S8, .f32⟩
  | 90 => ⟨S8, .f32⟩
  | 91 => ⟨S_, .f32⟩
  | 92 => ⟨S8, .f32⟩
  | 93 => ⟨S8, .f32⟩
  | 94 => ⟨S8, .bf16⟩
  | 95 => ⟨S8, .f32⟩
  | 96 => ⟨S8, .f32⟩
  | 97 => ⟨S8, .bf16⟩
  | 98 => ⟨S8, .f32⟩
  | 99 => ⟨S8, .f32⟩
  | 100 => ⟨S8, .bf16⟩
  | 101 => ⟨S8, .f32⟩
  | 102 => ⟨S8x1, .f32⟩
  | 103 => ⟨S8x1, .f32⟩
  | 104 => ⟨S8x1, .f32⟩
  | 105 => ⟨S8x3, .f32⟩
  | 106 => ⟨S_, .i32⟩
  | 107 => ⟨S1, .i32⟩
  | 108 => ⟨S_, .i32⟩
  | 109 => ⟨S1, .i32⟩
  | 110 => ⟨S2, .i32⟩
  | 111 => ⟨S60x128, .f32⟩
  | 112 => ⟨S_, .i32⟩
  | 113 => ⟨S1, .i32⟩
  | 114 => ⟨S_, .i32⟩
  | 115 => ⟨S1, .i32⟩
  | 116 => ⟨S2, .i32⟩
  | 117 => ⟨S60x128, .f32⟩
  | 118 => ⟨S_, .i32⟩
  | 119 => ⟨S1, .i32⟩
  | 120 => ⟨S_, .i32⟩
  | 121 => ⟨S1, .i32⟩
  | 122 => ⟨S2, .i32⟩
  | 123 => ⟨S_, .f32⟩
  | 124 => ⟨S8x3, .f32⟩
  | 125 => ⟨S60x128, .f32⟩
  | 126 => ⟨S_, .i32⟩
  | 127 => ⟨S1, .i32⟩
  | _ => ⟨S2x16384x2048, .f32⟩

abbrev hbmTy0_1 (i : Nat) : BufTy := match i % 128 with
  | 0 => ⟨S_, .i32⟩
  | 1 => ⟨S1, .i32⟩
  | 2 => ⟨S2, .i32⟩
  | 3 => ⟨S_, .f32⟩
  | 4 => ⟨S8x3, .f32⟩
  | 5 => ⟨S60x128, .f32⟩
  | 6 => ⟨S1x3840, .f32⟩
  | 7 => ⟨S1x7680, .f32⟩
  | 8 => ⟨S1x7680, .f32⟩
  | 9 => ⟨S1x7680, .f32⟩
  | 10 => ⟨S2x60x16384x128, .bf16⟩
  | 11 => ⟨S32768x128, .f32⟩
  | 12 => ⟨S2x60x16384x64, .bf16⟩
  | 13 => ⟨S32768x8, .f32⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S2048x1280, .bf16⟩
  | .local _ .vmem, ⟨3, _⟩ => ⟨S2048x1280, .bf16⟩
  | .local _ .vmem, ⟨4, _⟩ => ⟨S1x1280, .f32⟩
  | .local _ .vmem, ⟨5, _⟩ => ⟨S1x1280, .f32⟩
  | .local _ .vmem, ⟨6, _⟩ => ⟨S1x1280, .f32⟩
  | .local _ .vmem, ⟨7, _⟩ => ⟨S1x1280, .f32⟩
  | .local _ .vmem, ⟨8, _⟩ => ⟨S1x2560, .f32⟩
  | .local _ .vmem, ⟨9, _⟩ => ⟨S1x2560, .f32⟩
  | .local _ .vmem, ⟨10, _⟩ => ⟨S1x2560, .f32⟩
  | .local _ .vmem, ⟨11, _⟩ => ⟨S1x2560, .f32⟩
  | .local _ .vmem, ⟨12, _⟩ => ⟨S1x2560, .f32⟩
  | .local _ .vmem, ⟨13, _⟩ => ⟨S1x2560, .f32⟩
  | .local _ .vmem, ⟨14, _⟩ => ⟨S2048x128, .bf16⟩
  | .local _ .vmem, ⟨15, _⟩ => ⟨S1x128, .f32⟩
  | .local _ .vmem, ⟨16, _⟩ => ⟨S1x20x1024x128, .bf16⟩
  | .local _ .vmem, ⟨17, _⟩ => ⟨S1x20x1024x128, .bf16⟩
  | .local _ .vmem, ⟨18, _⟩ => ⟨S1024x128, .f32⟩
  | .local _ .vmem, ⟨19, _⟩ => ⟨S1024x128, .f32⟩
  | .local _ .vmem, ⟨20, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_c : Ref sig .tc := ⟨.hbm, 26, rfl⟩
abbrev main_call0_v0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c_0 : Ref sig .tc := ⟨.hbm, 31, rfl⟩
abbrev main_call1_v0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_c_8 : Ref sig .tc := ⟨.hbm, 54, rfl⟩
abbrev main_v39 : Ref sig .tc := ⟨.hbm, 55, rfl⟩
abbrev main_c_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_c_11 : Ref sig .tc := ⟨.hbm, 62, rfl⟩
abbrev main_v44 : Ref sig .tc := ⟨.hbm, 63, rfl⟩
abbrev main_c_12 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_c_14 : Ref sig .tc := ⟨.hbm, 70, rfl⟩
abbrev main_v49 : Ref sig .tc := ⟨.hbm, 71, rfl⟩
abbrev main_c_15 : Ref sig .tc := ⟨.hbm, 72, rfl⟩
abbrev main_v50 : Ref sig .tc := ⟨.hbm, 73, rfl⟩
abbrev main_v51 : Ref sig .tc := ⟨.hbm, 74, rfl⟩
abbrev main_cst_16 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_17 : Ref sig .tc := ⟨.hbm, 79, rfl⟩
abbrev main_v55 : Ref sig .tc := ⟨.hbm, 80, rfl⟩
abbrev main_v56 : Ref sig .tc := ⟨.hbm, 81, rfl⟩
abbrev main_cst_18 : Ref sig .tc := ⟨.hbm, 82, rfl⟩
abbrev main_v57 : Ref sig .tc := ⟨.hbm, 83, rfl⟩
abbrev main_v58 : Ref sig .tc := ⟨.hbm, 84, rfl⟩
abbrev main_cst_19 : Ref sig .tc := ⟨.hbm, 85, rfl⟩
abbrev main_v59 : Ref sig .tc := ⟨.hbm, 86, rfl⟩
abbrev main_v60 : Ref sig .tc := ⟨.hbm, 87, rfl⟩
abbrev main_cst_20 : Ref sig .tc := ⟨.hbm, 88, rfl⟩
abbrev main_v61 : Ref sig .tc := ⟨.hbm, 89, rfl⟩
abbrev main_v62 : Ref sig .tc := ⟨.hbm, 90, rfl⟩
abbrev main_cst_21 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_22 : Ref sig .tc := ⟨.hbm, 106, rfl⟩
abbrev main_v77 : Ref sig .tc := ⟨.hbm, 107, rfl⟩
abbrev main_c_23 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_24 : Ref sig .tc := ⟨.hbm, 112, rfl⟩
abbrev main_v81 : Ref sig .tc := ⟨.hbm, 113, rfl⟩
abbrev main_c_25 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_26 : Ref sig .tc := ⟨.hbm, 118, rfl⟩
abbrev main_v85 : Ref sig .tc := ⟨.hbm, 119, rfl⟩
abbrev main_c_27 : Ref sig .tc := ⟨.hbm, 120, rfl⟩
abbrev main_v86 : Ref sig .tc := ⟨.hbm, 121, rfl⟩
abbrev main_v87 : Ref sig .tc := ⟨.hbm, 122, rfl⟩
abbrev main_cst_28 : Ref sig .tc := ⟨.hbm, 123, rfl⟩
abbrev main_v88 : Ref sig .tc := ⟨.hbm, 124, rfl⟩
abbrev main_v89 : Ref sig .tc := ⟨.hbm, 125, rfl⟩
abbrev main_c_29 : Ref sig .tc := ⟨.hbm, 126, rfl⟩
abbrev main_v90 : Ref sig .tc := ⟨.hbm, 127, rfl⟩
abbrev main_c_30 : Ref sig .tc := ⟨.hbm, 128, rfl⟩
abbrev main_v91 : Ref sig .tc := ⟨.hbm, 129, rfl⟩
abbrev main_v92 : Ref sig .tc := ⟨.hbm, 130, rfl⟩
abbrev main_cst_31 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99_0 : Ref sig .tc := ⟨.hbm, 138, rfl⟩
abbrev main_v99_1 : Ref sig .tc := ⟨.hbm, 139, rfl⟩
abbrev main_v100 : Ref sig .tc := ⟨.hbm, 140, rfl⟩
abbrev main_v101 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x20x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference4Ideal.lean ====
abbrev S2x16384x2048 : Shape := ⟨3, ![2, 16384, 2048]⟩
abbrev S2048x11528 : Shape := ⟨2, ![2048, 11528]⟩
abbrev S11528 : Shape := ⟨1, ![11528]⟩
abbrev S2x16384x11528 : Shape := ⟨3, ![2, 16384, 11528]⟩
abbrev S1x1x11528 : Shape := ⟨3, ![1, 1, 11528]⟩
abbrev S2x16384x512 : Shape := ⟨3, ![2, 16384, 512]⟩
abbrev S2x16384x8 : Shape := ⟨3, ![2, 16384, 8]⟩
abbrev S2x16384x128 : Shape := ⟨3, ![2, 16384, 128]⟩
abbrev S_ : Shape := ⟨0, ![]⟩
abbrev S2x16384x8x64 : Shape := ⟨4, ![2, 16384, 8, 64]⟩
abbrev S2x8x16384x64 : Shape := ⟨4, ![2, 8, 16384, 64]⟩
abbrev S2x16384x2x64 : Shape := ⟨4, ![2, 16384, 2, 64]⟩
abbrev S2x2x16384x64 : Shape := ⟨4, ![2, 2, 16384, 64]⟩
abbrev S2x60x16384x64 : Shape := ⟨4, ![2, 60, 16384, 64]⟩
abbrev S32768x8 : Shape := ⟨2, ![32768, 8]⟩

abbrev nBuf : Space → Nat
  | .hbm => 50
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x11528, .f32⟩
  | .hbm, ⟨2, _⟩ => ⟨S11528, .f32⟩
  | .hbm, ⟨3, _⟩ => ⟨S2x16384x11528, .f32⟩
  | .hbm, ⟨4, _⟩ => ⟨S1x1x11528, .f32⟩
  | .hbm, ⟨5, _⟩ => ⟨S2x16384x11528, .f32⟩
  | .hbm, ⟨6, _⟩ => ⟨S2x16384x11528, .f32⟩
  | .hbm, ⟨7, _⟩ => ⟨S2x16384x512, .f32⟩
  | .hbm, ⟨8, _⟩ => ⟨S2x16384x512, .f32⟩
  | .hbm, ⟨9, _⟩ => ⟨S2x16384x512, .f32⟩
  | .hbm, ⟨10, _⟩ => ⟨S2x16384x512, .f32⟩
  | .hbm, ⟨11, _⟩ => ⟨S2x16384x8, .f32⟩
  | .hbm, ⟨12, _⟩ => ⟨S2x16384x512, .f32⟩
  | .hbm, ⟨13, _⟩ => ⟨S2x16384x128, .f32⟩
  | .hbm, ⟨14, _⟩ => ⟨S2x16384x128, .f32⟩
  | .hbm, ⟨15, _⟩ => ⟨S2x16384x512, .f32⟩
  | .hbm, ⟨16, _⟩ => ⟨S2x16384x512, .f32⟩
  | .hbm, ⟨17, _⟩ => ⟨S2x16384x512, .f32⟩
  | .hbm, ⟨18, _⟩ => ⟨S2x16384x512, .f32⟩
  | .hbm, ⟨19, _⟩ => ⟨S2x16384x512, .f32⟩
  | .hbm, ⟨20, _⟩ => ⟨S2x16384x2048, .f32⟩
  | .hbm, ⟨21, _⟩ => ⟨S2x16384x2048, .f32⟩
  | .hbm, ⟨22, _⟩ => ⟨S2x16384x2048, .f32⟩
  | .hbm, ⟨23, _⟩ => ⟨S_, .f32⟩
  | .hbm, ⟨24, _⟩ => ⟨S2x16384x512, .f32⟩
  | .hbm, ⟨25, _⟩ => ⟨S2x16384x512, .f32⟩
  | .hbm, ⟨26, _⟩ => ⟨S2x16384x8x64, .f32⟩
  | .hbm, ⟨27, _⟩ => ⟨S2x8x16384x64, .f32⟩
  | .hbm, ⟨28, _⟩ => ⟨S2x16384x8x64, .f32⟩
  | .hbm, ⟨29, _⟩ => ⟨S2x8x16384x64, .f32⟩
  | .hbm, ⟨30, _⟩ => ⟨S2x16384x8x64, .f32⟩
  | .hbm, ⟨31, _⟩ => ⟨S2x8x16384x64, .f32⟩
  | .hbm, ⟨32, _⟩ => ⟨S2x16384x8x64, .f32⟩
  | .hbm, ⟨33, _⟩ => ⟨S2x8x16384x64, .f32⟩
  | .hbm, ⟨34, _⟩ => ⟨S2x16384x2x64, .f32⟩
  | .hbm, ⟨35, _⟩ => ⟨S2x2x16384x64, .f32⟩
  | .hbm, ⟨36, _⟩ => ⟨S2x16384x2x64, .f32⟩
  | .hbm, ⟨37, _⟩ => ⟨S2x2x16384x64, .f32⟩
  | .hbm, ⟨38, _⟩ => ⟨S_, .f32⟩
  | .hbm, ⟨39, _⟩ => ⟨S2x16384x512, .f32⟩
  | .hbm, ⟨40, _⟩ => ⟨S2x16384x512, .f32⟩
  | .hbm, ⟨41, _⟩ => ⟨S2x16384x8x64, .f32⟩
  | .hbm, ⟨42, _⟩ => ⟨S2x8x16384x64, .f32⟩
  | .hbm, ⟨43, _⟩ => ⟨S2x16384x8x64, .f32⟩
  | .hbm, ⟨44, _⟩ => ⟨S2x8x16384x64, .f32⟩
  | .hbm, ⟨45, _⟩ => ⟨S2x16384x8x64, .f32⟩
  | .hbm, ⟨46, _⟩ => ⟨S2x8x16384x64, .f32⟩
  | .hbm, ⟨47, _⟩ => ⟨S2x60x16384x64, .f32⟩
  | .hbm, ⟨48, _⟩ => ⟨S2x60x16384x64, .bf16⟩
  | .hbm, ⟨49, _⟩ => ⟨S32768x8, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_cst_0 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩

abbrev nD : Nat := 1
abbrev τ : Topo := Topo.v7x

variable {F : FTy → Type} [FloatOps F]
-- ==== Proof.Swa.Soft.lean ====
/- The softmax with a sink over extended reals: reordering its keys, and the values of keys of weight zero. -/
module

public import Idealize.ShloMosaic.Lib.Pointwise
public import Idealize.ShloMosaic.Lib.IdealHost

@[expose] public section

set_option maxRecDepth 16384

noncomputable section

namespace Cert.Swa

open Idealize.ShloMosaic

/-- The largest of the logits `s` and the sink. -/
def top {n : Nat} (s : Fin n → EReal) (sink : EReal) : EReal :=
  max (Finset.fold max (Ideal.ofBits .f32 0xFF800000#32) s Finset.univ) sink

/-- The softmax's denominator, the sink's share in it. -/
def denom {n : Nat} (s : Fin n → EReal) (sink : EReal) : EReal :=
  ∑ x, Ideal.exp (s x - top s sink) + Ideal.exp (sink - top s sink)

/-- The values `v` weighted by the softmax with a sink of the logits `s`. -/
def soft {n : Nat} (s : Fin n → EReal) (sink : EReal) (v : Fin n → EReal) : EReal :=
  ∑ x, Ideal.div (Ideal.exp (s x - top s sink)) (denom s sink) * v x

/-- The distance query minus key, as the kernel counts it. -/
def relWord (w : BitVec 32) (r c : Nat) : BitVec 32 :=
  IntOp.subi (IntOp.addi w (BitVec.ofNat 32 r)) (BitVec.ofNat 32 c)

/-- Whether a query sees a key: the distance is from 0 to 127. -/
def near (x : BitVec 32) : BitVec 1 :=
  IntOp.andi (IntOp.cmpi .sge x 0#32) (IntOp.cmpi .slt x 128#32)

theorem fold_perm {n : Nat} (σ : Equiv.Perm (Fin n)) (b : EReal) (s : Fin n → EReal) :
    Finset.fold max b (fun x => s (σ x)) Finset.univ = Finset.fold max b s Finset.univ := by
  conv_rhs => rw [← Finset.univ_map_equiv_to_embedding σ, Finset.fold_map]
  rfl

theorem top_perm {n : Nat} (σ : Equiv.Perm (Fin n)) (s : Fin n → EReal) (sink : EReal) :
    top (fun x => s (σ x)) sink = top s sink := by
  unfold top; rw [fold_perm σ]

theorem denom_perm {n : Nat} (σ : Equiv.Perm (Fin n)) (s : Fin n → EReal) (sink : EReal) :
    denom (fun x => s (σ x)) sink = denom s sink := by
  unfold denom; rw [top_perm σ]
  exact congrArg (· + _) (Equiv.sum_comp σ fun x => Ideal.exp (s x - top s sink))

/-- The keys may be taken in any order. -/
theorem soft_perm {n : Nat} (σ : Equiv.Perm (Fin n)) (s : Fin n → EReal) (sink : EReal) (v : Fin n → EReal) :
    soft (fun x => s (σ x)) sink (fun x => v (σ x)) = soft s sink v := by
  unfold soft; rw [top_perm σ, denom_perm σ]
  exact Equiv.sum_comp σ fun x => Ideal.div (Ideal.exp (s x - top s sink)) (denom s sink) * v x

theorem exp_nonneg (x : EReal) : 0 ≤ Ideal.exp x := by
  induction x with
  | bot => exact le_rfl
  | top => exact le_top
  | coe r => exact EReal.coe_nonneg.2 (Real.exp_pos r).le

theorem top_ne_top {n : Nat} (s : Fin n → EReal) (sink : EReal) (hs : ∀ x, s x ≠ ⊤) (hz : sink ≠ ⊤) : top s sink ≠ ⊤ := by
  have h0 : Ideal.ofBits .f32 0xFF800000#32 < ⊤ := by simp [Ideal.ofBits, Ideal.ieee]
  exact (max_lt ((Finset.fold_max_lt _).2 ⟨h0, fun x _ => (hs x).lt_top⟩) hz.lt_top).ne

/-- With a real sink and no logit `+∞` the denominator is positive. -/
theorem denom_pos {n : Nat} (s : Fin n → EReal) (sink : EReal) (hs : ∀ x, s x ≠ ⊤) (hz : sink ≠ ⊤) (hb : sink ≠ ⊥) :
    0 < denom s sink := by
  have ht := top_ne_top s sink hs hz
  have hle : sink ≤ top s sink := le_max_right _ _
  have hbt : top s sink ≠ ⊥ := fun h => hb (le_bot_iff.1 (h ▸ hle))
  refine lt_of_lt_of_le ?_ (le_add_of_nonneg_left (Finset.sum_nonneg fun x _ => exp_nonneg _))
  lift sink to ℝ using ⟨hz, hb⟩
  generalize top s (sink : EReal) = M at ht hbt
  lift M to ℝ using ⟨ht, hbt⟩
  rw [← EReal.coe_sub]
  exact EReal.coe_pos.2 (Real.exp_pos _)

theorem div_zero_left (y : EReal) (h : 0 < y) : Ideal.div 0 y = 0 := by
  unfold Ideal.div; rw [if_neg h.ne', zero_mul]

/-- The value of a key whose logit is `-∞` does not matter. -/
theorem soft_congr {n : Nat} (s : Fin n → EReal) (sink : EReal) (v v' : Fin n → EReal) (hs : ∀ x, s x ≠ ⊤) (hz : sink ≠ ⊤)
    (hb : sink ≠ ⊥) (h : ∀ x, s x = ⊥ ∨ v x = v' x) : soft s sink v = soft s sink v' := by
  unfold soft
  refine Finset.sum_congr rfl fun x _ => ?_
  rcases h x with h | h
  · rw [h, EReal.bot_sub, show Ideal.exp ⊥ = 0 from rfl, div_zero_left _ (denom_pos s sink hs hz hb), zero_mul, zero_mul]
  · rw [h]

/-- A nonnegative real factor goes into a sum of extended reals. -/
theorem mul_sum_real {ι : Type} (c : EReal) (hc : 0 ≤ c) (ht : c ≠ ⊤) (t : Finset ι) (f : ι → EReal) :
    (∑ x ∈ t, f x) * c = ∑ x ∈ t, f x * c := by
  classical
  induction t using Finset.induction_on with
  | empty => simp
  | insert a t ha ih => rw [Finset.sum_insert ha, Finset.sum_insert ha, EReal.right_distrib_of_nonneg_of_ne_top hc ht, ih]

theorem eighth_bf16 : Ideal.ofBits .bf16 15872#16 = (((1 : ℝ) / 8 : ℝ) : EReal) := by
  simp [Ideal.ofBits, Ideal.ieee, -EReal.coe_mul]; norm_num

theorem eighth_f32 : Ideal.ofBits .f32 1040187392#32 = (((1 : ℝ) / 8 : ℝ) : EReal) := by
  simp [Ideal.ofBits, Ideal.ieee, -EReal.coe_mul]; norm_num

theorem two_f32 : Ideal.ofBits .f32 0x40000000#32 = ((2 : ℝ) : EReal) := by
  simp [Ideal.ofBits, Ideal.ieee, -EReal.coe_mul]; norm_num

/-- A power of two is nonnegative. -/
theorem pow_two_nonneg (y : EReal) : 0 ≤ Ideal.pow ((2 : ℝ) : EReal) y := by
  induction y with
  | bot => show 0 ≤ if (2 : ℝ) < 0 then (⊥ : EReal) else if 1 < (2 : ℝ) then 0 else if (2 : ℝ) = 1 then 1 else ⊤
           norm_num
  | top => show 0 ≤ if (2 : ℝ) < 0 then (⊥ : EReal) else if 1 < (2 : ℝ) then ⊤ else if (2 : ℝ) = 1 then 1 else 0
           norm_num
  | coe r => exact EReal.coe_nonneg.2 (Real.rpow_nonneg (by norm_num) r)

/-- A sum over 128 lanes of which the upper 64 are zero. -/
theorem sum_lanes (f : Fin 128 → EReal) (h : ∀ x : Fin 128, 64 ≤ x.val → f x = 0) :
    ∑ x, f x = ∑ x : Fin 64, f ⟨x.val, by omega⟩ := by
  rw [show (∑ x, f x) = ∑ x : Fin (64 + 64), f x from rfl, Fin.sum_univ_add]
  rw [Finset.sum_eq_zero (s := (Finset.univ : Finset (Fin 64))) (f := fun i => f (Fin.natAdd 64 i))
    (fun x _ => h _ (Nat.le_add_right 64 _)), add_zero]
  rfl

end Cert.Swa

end
-- ==== Proof.Swa.Tile.lean ====
/- One tile of the sliding window attention kernel: the value the body stores for one block of
   128 queries and one head, as one term of the blocks it reads, and that term read at an index. -/
module

public import proofs.«01_k».proof.Proof.Gen.KernelIdeal.Skeleton
public import Idealize.ShloMosaic.Lib.Pointwise
public import proofs.«01_k».proof.Proof.Swa.Soft

@[expose] public section

set_option maxRecDepth 16384

noncomputable section

namespace Cert.Swa

open Idealize.ShloMosaic Idealize.ShloMosaic.TcCoe Idealize.SL.Sem

open Cert.KernelIdeal Cert.KernelIdeal.Gen

/-- The offsets query minus key of one tile, `w` the distance between the two tiles' first rows. -/
def relTile (w : BitVec 32) : IVec S128x256 32 :=
  subi (addi (broadcast S128x256 w) (iota .tc S128x256 32 [0] iota_S128x256_d0_w32))
    (iota .tc S128x256 32 [1] iota_S128x256_d1_w32)

/-- The masked logits of one tile. -/
def logitTile (w : BitVec 32) (q : Vec Ideal S1x1x128x128 .bf16) (k : Vec Ideal S1x1x256x128 .bf16) (slope : EReal) :
    FVec Ideal S128x256 .f32 :=
  select
    (andi (cmpi .sge (relTile w) (broadcast S128x256 0#32)) (cmpi .slt (relTile w) (broadcast S128x256 128#32)))
    (subf
      (matmul dot_S128x128_S256x128_S128x256_1_1_0_0_n_n none
        (mulf (shapeCast S128x128 q shapeCasts_S1x1x128x128_S128x128 : FVec Ideal S128x128 .bf16)
          (broadcast S128x128 (Scalar.ofBits .bf16 0x3E00#16)))
        (shapeCast S256x128 k shapeCasts_S1x1x256x128_S256x128 : FVec Ideal S256x128 .bf16)
        (constant S128x256 .f32 0x00000000#32))
      (mulf (broadcast S128x256 slope) (sitofp .f32 (relTile w))))
    (broadcast S128x256 (Named.named κ "mask" 0xF149F2CA#32 : Ideal .f32))

/-- The running maximum of one tile's rows, the sink among them. -/
def maxTile (s : FVec Ideal S128x256 .f32) (sink : EReal) : FVec Ideal S128x1 .f32 :=
  maximumf (shapeCast S128x1 (multiReduction .maximumf [1] S128 s 0xFF800000#32 reduces_S128x256_S128 (.inl rfl) rfl)
    shapeCasts_S128_S128x1) (broadcast S128x1 sink)

/-- The exponentials of one tile. -/
def expTile (s : FVec Ideal S128x256 .f32) (sink : EReal) : FVec Ideal S128x256 .f32 :=
  exp (subf s (broadcastTo S128x256 (maxTile s sink) broadcasts_S128x1_S128x256))

/-- What is stored for one tile: the softmax with a sink, applied to the values. -/
def outTile (s : FVec Ideal S128x256 .f32) (sink : EReal) (v : Vec Ideal S1x1x256x128 .bf16) : FVec Ideal S1x128x64 .bf16 :=
  shapeCast S1x128x64
    (truncf .bf16
      (extractStridedSlice S128x64 ![0, 0]
        (matmul dot_S128x256_S256x128_S128x128_1_0_0_1_n_n none
          (truncf .bf16
            (divf (expTile s sink)
              (broadcastTo S128x256
                (addf
                  (shapeCast S128x1
                    (multiReduction .add [1] S128 (expTile s sink) 0x00000000#32 reduces_S128x256_S128 (.inl rfl) rfl)
                    shapeCasts_S128_S128x1)
                  (exp (subf (broadcast S128x1 sink) (maxTile s sink))))
                broadcasts_S128x1_S128x256))
            bitsLt_bf16_f32)
          (shapeCast S256x128 v shapeCasts_S1x1x256x128_S256x128 : FVec Ideal S256x128 .bf16)
          (constant S128x128 .f32 0x00000000#32))
        slices_S128x128_o0_0_S128x64)
      bitsLt_bf16_f32)
    shapeCasts_S128x64_S1x128x64

theorem logitTile_at (w : BitVec 32) (q : Vec Ideal S1x1x128x128 .bf16) (k : Vec Ideal S1x1x256x128 .bf16) (slope : EReal)
    (r : Fin 128) (c : Fin 256) : logitTile w q k slope (ix2 r c)
      = Scalar.select (near (relWord w r c))
          (∑ x, q (ix4 0 0 r x) * Ideal.ofBits .bf16 15872#16 * k (ix4 0 0 c x)
            - slope * (FloatOps.sitofp .f32 (relWord w r c) : Ideal .f32)) (⊥ : EReal) := by
  have hm : (Named.named κ "mask" 0xF149F2CA#32 : Ideal .f32) = (⊥ : EReal) := IdealRules.named_const.ideal_named_scalar κ "mask" _ _ rfl
  unfold logitTile; rw [hm]
  pointwise [relTile, near, relWord]

theorem outTile_at (s : FVec Ideal S128x256 .f32) (sink : EReal) (v : Vec Ideal S1x1x256x128 .bf16)
    (r : Fin 128) (d : Fin 64) : outTile s sink v (ix3 0 r d)
      = soft (fun x => s (ix2 r x)) sink (fun x => v (ix4 0 0 x ⟨d.val, by omega⟩)) := by
  unfold soft denom top
  pointwise [outTile, maxTile, expTile]

end Cert.Swa

end
-- ==== Proof.Swa.Ref.lean ====
/- The reference's sliding window attention, its stages read at an index. -/
module

public import proofs.«01_k».proof.Proof.Gen.ReferenceIdeal.Read
public import Idealize.ShloMosaic.Lib.Pointwise
public import proofs.«01_k».proof.Proof.Swa.Soft

@[expose] public section

set_option maxRecDepth 16384

noncomputable section

namespace Cert.Swa

open Idealize.ShloMosaic Idealize.ShloMosaic.TcCoe Idealize.SL.Sem
open Cert.ReferenceIdeal Cert.ReferenceIdeal.Gen Cert.ReferenceIdeal.Read

variable (Q : FVec Ideal S2x16384x512 .f32) (K V : FVec Ideal S2x16384x128 .f32) (Z : FVec Ideal S8 .f32)

theorem kband_at (b h : Fin 2) (n : Fin 128) (k : Fin 256) (d : Fin 64) :
    val_main_v26 (F := Ideal) K (ix5 b h n k d)
      = if _ : k.val < 128 then if _ : n.val < 1 then 0 else K (ix3 b ⟨(n.val - 1) * 128 + k.val, by omega⟩ ⟨h.val * 64 + d.val, by omega⟩)
        else K (ix3 b ⟨n.val * 128 + (k.val - 128), by omega⟩ ⟨h.val * 64 + d.val, by omega⟩) := by
  pointwise [val_main_v26, val_main_v21, val_main_v19, val_main_v20, val_main_v16, val_main_v3, val_main_v2, val_main_cst_3]

theorem vband_at (b h : Fin 2) (n : Fin 128) (k : Fin 256) (d : Fin 64) :
    val_main_v27 (F := Ideal) V (ix5 b h n k d)
      = if _ : k.val < 128 then if _ : n.val < 1 then 0 else V (ix3 b ⟨(n.val - 1) * 128 + k.val, by omega⟩ ⟨h.val * 64 + d.val, by omega⟩)
        else V (ix3 b ⟨n.val * 128 + (k.val - 128), by omega⟩ ⟨h.val * 64 + d.val, by omega⟩) := by
  pointwise [val_main_v27, val_main_v25, val_main_v23, val_main_v24, val_main_v17, val_main_v5, val_main_v4, val_main_cst_4]

theorem q_at (b h : Fin 2) (g : Fin 4) (n q : Fin 128) (d : Fin 64) :
    val_main_v15 (F := Ideal) Q (ix6 b h g n q d)
      = Q (ix3 b ⟨n.val * 128 + q.val, by omega⟩ ⟨(h.val * 4 + g.val) * 64 + d.val, by omega⟩) := by
  pointwise [val_main_v15, val_main_v1, val_main_v0]

theorem dot_at (b h : Fin 2) (g : Fin 4) (n q : Fin 128) (k : Fin 256) :
    val_main_v31 (F := Ideal) Q K (ix6 b h g n q k)
      = (∑ x, val_main_v26 (F := Ideal) K (ix5 b h n k x) * val_main_v15 (F := Ideal) Q (ix6 b h g n q x))
          * Ideal.ofBits .f32 1040187392#32 := by
  pointwise [val_main_v31, val_main_v30, val_main_cst_5, val_main_v29, val_main_v28]

theorem valid_at (b h : Fin 2) (g : Fin 4) (n q : Fin 128) (k : Fin 256) :
    val_main_call0_v1 (F := Ideal) (ix6 b h g n q k)
      = IntOp.andi (near (relWord 128#32 q.val k.val))
          (IntOp.ori (IntOp.cmpi .sgt (BitVec.ofNat 32 n.val) 0#32) (IntOp.cmpi .sge (BitVec.ofNat 32 k.val) 128#32)) := by
  pointwise [val_main_call0_v1, val_main_v60, val_main_v59, val_main_v58, val_main_v57, val_main_v56, val_main_v55, val_main_v54, val_main_v53,
   val_main_v52, val_main_v51, val_main_v50, val_main_v49, val_main_v48, val_main_v47, val_main_v46, val_main_v45, val_main_v44,
   val_main_v43, val_main_v42, val_main_v41, val_main_v40, val_main_v39, val_main_v38, val_main_v37, val_main_v36, val_main_v35,
   val_main_v34, val_main_v33, val_main_v32, val_main_c, val_main_c_6, val_main_c_7, val_main_c_8, val_main_c_9,
   near, relWord]

theorem logit_at (b h : Fin 2) (g : Fin 4) (n q : Fin 128) (k : Fin 256) :
    val_main_v70 (F := Ideal) Q K (ix6 b h g n q k)
      = Scalar.select (val_main_call0_v1 (F := Ideal) (ix6 b h g n q k))
          (val_main_v31 (F := Ideal) Q K (ix6 b h g n q k)
            - val_main_v14 (F := Ideal) (ix1 ⟨h.val * 4 + g.val, by omega⟩)
              * (FloatOps.sitofp .f32 (relWord 128#32 q.val k.val) : Ideal .f32))
          (Ideal.ofBits .f32 0xFF800000#32) := by
  unfold val_main_v70
  pointwise [val_main_v69, val_main_v68, val_main_v67, val_main_v66, val_main_v65, val_main_v64, val_main_v63, val_main_v62,
   val_main_v61, val_main_v40, val_main_v39, val_main_v38, val_main_v37, val_main_v36, val_main_v35,
   val_main_v34, val_main_v33, val_main_v32, val_main_c, val_main_cst_10, val_main_call0_v2, val_main_call0_v0, relWord]
  rfl

theorem hostMax_single {s t u : Shape} {a : Fin s.rank} (h' : s.ReducesTo [a] t) (h : s.Reduces [a] t) (x : FVec Ideal s .f32)
    (init : FVec Ideal u .f32) (hu : 0 < u.numel) (j : t.Idx) :
    Host.reduce FloatOps.maximumf x init h' hu j
      = Finset.fold max (init (Shape.Idx.first hu)) (x ∘ h.lift j) Finset.univ := by
  rw [Host.reduce_eq_fold, Shape.ReducesTo.drop_eq_drop h' h]
  exact h.fold_filter_drop_single _ _ x j

theorem rowmax_at (b h : Fin 2) (g : Fin 4) (n q : Fin 128) :
    val_main_v73 (F := Ideal) Q K (ix5 b h g n q)
      = Finset.fold max (Ideal.ofBits .f32 0xFF800000#32) (fun k : Fin 256 => val_main_v70 (F := Ideal) Q K (ix6 b h g n q k)) Finset.univ := by
  unfold val_main_v73
  generalize val_main_v70 (F := Ideal) Q K = y
  rw [hostMax_single _ (by decide)]
  rw [show val_main_cst_11 (F := Ideal) (Shape.Idx.first h_S_) = Ideal.ofBits .f32 0xFF800000#32 from rfl]
  refine Finset.fold_congr fun k _ => ?_
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem rowsum_at (b h : Fin 2) (g : Fin 4) (n q : Fin 128) :
    val_main_v80 (F := Ideal) Q K Z (ix5 b h g n q) = ∑ k : Fin 256, val_main_v79 (F := Ideal) Q K Z (ix6 b h g n q k) := by
  rw [val_main_v80_apply, val_main_cst_12_apply]
  refine (congrArg (· + _) (Ideal.ofBits_zero_f32)).trans ((zero_add _).trans (Finset.sum_congr rfl fun k _ => congrArg _ ?_))
  funext a
  match a with | ⟨0, _⟩ => rfl | ⟨1, _⟩ => rfl | ⟨2, _⟩ => rfl | ⟨3, _⟩ => rfl | ⟨4, _⟩ => rfl | ⟨5, _⟩ => rfl

theorem sink_at (b h : Fin 2) (g : Fin 4) (n q : Fin 128) :
    val_main_v75 (F := Ideal) Z (ix6 b h g n q 0) = Z (ix1 ⟨h.val * 4 + g.val, by omega⟩) := by
  pointwise [val_main_v75, val_main_v72, val_main_v71]

theorem max_at (b h : Fin 2) (g : Fin 4) (n q : Fin 128) :
    val_main_v76 (F := Ideal) Q K Z (ix6 b h g n q 0)
      = top (fun k : Fin 256 => val_main_v70 (F := Ideal) Q K (ix6 b h g n q k)) (Z (ix1 ⟨h.val * 4 + g.val, by omega⟩)) := by
  have e : idx_main_v74 (ix6 b h g n q 0) = ix5 b h g n q := by
    funext a
    match a with | ⟨0, _⟩ => rfl | ⟨1, _⟩ => rfl | ⟨2, _⟩ => rfl | ⟨3, _⟩ => rfl | ⟨4, _⟩ => rfl
  rw [val_main_v76_apply, val_main_v74_apply, e, rowmax_at, sink_at]
  rfl

theorem exp_at (b h : Fin 2) (g : Fin 4) (n q : Fin 128) (k : Fin 256) :
    val_main_v79 (F := Ideal) Q K Z (ix6 b h g n q k)
      = Ideal.exp (val_main_v70 (F := Ideal) Q K (ix6 b h g n q k) - val_main_v76 (F := Ideal) Q K Z (ix6 b h g n q 0)) := by
  pointwise [val_main_v79, val_main_v78, val_main_v77]

theorem prob_at (b h : Fin 2) (g : Fin 4) (n q : Fin 128) (k : Fin 256) :
    val_main_v87 (F := Ideal) Q K Z (ix6 b h g n q k)
      = Ideal.div (val_main_v79 (F := Ideal) Q K Z (ix6 b h g n q k))
          (val_main_v80 (F := Ideal) Q K Z (ix5 b h g n q)
            + Ideal.exp (Z (ix1 ⟨h.val * 4 + g.val, by omega⟩) - val_main_v76 (F := Ideal) Q K Z (ix6 b h g n q 0))) := by
  pointwise [val_main_v87, val_main_v86, val_main_v85, val_main_v84, val_main_v83, val_main_v82, val_main_v81, val_main_v72, val_main_v71]

theorem out_at (b : Fin 2) (s : Fin 16384) (l : Fin 512) :
    val_main_v93 (F := Ideal) Q K V Z (ix3 b s l)
      = ∑ x, val_main_v27 (F := Ideal) V (ix5 b ⟨l.val / 64 / 4, by omega⟩ ⟨s.val / 128, by omega⟩ x ⟨l.val % 64, by omega⟩)
          * val_main_v87 (F := Ideal) Q K Z (ix6 b ⟨l.val / 64 / 4, by omega⟩ ⟨l.val / 64 % 4, by omega⟩ ⟨s.val / 128, by omega⟩ ⟨s.val % 128, by omega⟩ x) := by
  pointwise [val_main_v93, val_main_v92, val_main_v91, val_main_v90, val_main_v89, val_main_v88]

/-- The reference's result at a row and a lane: the softmax with a sink of that row's band. -/
theorem ref_at (b h : Fin 2) (g : Fin 4) (n q : Fin 128) (d : Fin 64) :
    val_main_v93 (F := Ideal) Q K V Z (ix3 b ⟨n.val * 128 + q.val, by omega⟩ ⟨(h.val * 4 + g.val) * 64 + d.val, by omega⟩)
      = soft (fun k : Fin 256 => val_main_v70 (F := Ideal) Q K (ix6 b h g n q k)) (Z (ix1 ⟨h.val * 4 + g.val, by omega⟩))
          (fun k => val_main_v27 (F := Ideal) V (ix5 b h n k d)) := by
  have e1 : ((h.val * 4 + g.val) * 64 + d.val) / 64 / 4 = h.val := by omega
  have e2 : ((h.val * 4 + g.val) * 64 + d.val) / 64 % 4 = g.val := by omega
  have e3 : ((h.val * 4 + g.val) * 64 + d.val) % 64 = d.val := by omega
  have e4 : (n.val * 128 + q.val) / 128 = n.val := by omega
  have e5 : (n.val * 128 + q.val) % 128 = q.val := by omega
  rw [out_at]
  simp only [e1, e2, e3, e4, e5, Fin.eta]
  unfold soft denom
  refine Finset.sum_congr rfl fun k _ => ?_
  rw [prob_at, rowsum_at, mul_comm]
  simp only [exp_at, max_at]

end Cert.Swa

end
-- ==== Proof.Swa.Entry.lean ====
/- The packed heads the sliding window attention kernel reads, as the host lays them out from queries, keys and values. -/
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise
public import Idealize.ShloMosaic.Lib.Claim

@[expose] public section

set_option maxRecDepth 16384

noncomputable section

namespace Cert.Swa

open Idealize.ShloMosaic Idealize.ShloMosaic.TcCoe Idealize.SL.Sem
open Cert.KernelIdeal Cert.KernelIdeal.Gen

/-- Eight heads of 64, each in 128 lanes, the upper lanes zero. -/
def heads8 (t : FVec Ideal S2x16384x512 .f32) : FVec Ideal S2x8x16384x128 .bf16 :=
  truncf .bf16
    (concatenate S2x8x16384x128 3
      [⟨S2x8x16384x64, transpose S2x8x16384x64 [0, 2, 1, 3] (shapeCast S2x16384x8x64 t shapeCasts_S2x16384x512_S2x16384x8x64)
          transposes_S2x16384x8x64_S2x8x16384x64_0_2_1_3⟩,
        ⟨S2x8x16384x64, broadcastInDim S2x8x16384x64 ![] bcast_S_S2x8x16384x64 (constant (F := Ideal) S_ .f32 0x00000000#32)⟩]
      concatenates_S2x8x16384x64_S2x8x16384x64_S2x8x16384x128_d3)
    bitsLt_bf16_f32

/-- Two heads of 64, each in 128 lanes, the upper lanes zero. -/
def heads2 (t : FVec Ideal S2x16384x128 .f32) : FVec Ideal S2x2x16384x128 .bf16 :=
  truncf .bf16
    (concatenate S2x2x16384x128 3
      [⟨S2x2x16384x64, transpose S2x2x16384x64 [0, 2, 1, 3] (shapeCast S2x16384x2x64 t shapeCasts_S2x16384x128_S2x16384x2x64)
          transposes_S2x16384x2x64_S2x2x16384x64_0_2_1_3⟩,
        ⟨S2x2x16384x64, broadcastInDim S2x2x16384x64 ![] bcast_S_S2x2x16384x64 (constant (F := Ideal) S_ .f32 0x00000000#32)⟩]
      concatenates_S2x2x16384x64_S2x2x16384x64_S2x2x16384x128_d3)
    bitsLt_bf16_f32

/-- The packed array: 24 slots of zeros, the queries, the keys, the values, 24 slots of zeros. -/
def slots (z : FVec Ideal S2x24x16384x128 .bf16) (q : FVec Ideal S2x8x16384x128 .bf16) (k v : FVec Ideal S2x2x16384x128 .bf16) :
    FVec Ideal S2x60x16384x128 .bf16 :=
  concatenate S2x60x16384x128 1
    [⟨S2x24x16384x128, z⟩, ⟨S2x8x16384x128, q⟩, ⟨S2x2x16384x128, k⟩, ⟨S2x2x16384x128, v⟩, ⟨S2x24x16384x128, z⟩]
    concatenates_S2x24x16384x128_S2x8x16384x128_S2x2x16384x128_S2x2x16384x128_S2x24x16384x128_S2x60x16384x128_d1

theorem heads8_at (t : FVec Ideal S2x16384x512 .f32) (b : Fin 2) (h : Fin 8) (s : Fin 16384) (l : Fin 128) :
    heads8 t (ix4 b h s l) = if _ : l.val < 64 then t (ix3 b s ⟨h.val * 64 + l.val, by omega⟩) else 0 := by
  pointwise [heads8]

theorem heads2_at (t : FVec Ideal S2x16384x128 .f32) (b : Fin 2) (h : Fin 2) (s : Fin 16384) (l : Fin 128) :
    heads2 t (ix4 b h s l) = if _ : l.val < 64 then t (ix3 b s ⟨h.val * 64 + l.val, by omega⟩) else 0 := by
  pointwise [heads2]

theorem slots_q (z : FVec Ideal S2x24x16384x128 .bf16) (q : FVec Ideal S2x8x16384x128 .bf16) (k v : FVec Ideal S2x2x16384x128 .bf16)
    (b : Fin 2) (i : Fin 60) (s : Fin 16384) (l : Fin 128) (h : 24 ≤ i.val) (h' : i.val < 32) :
    slots z q k v (ix4 b i s l) = q (ix4 b ⟨i.val - 24, by omega⟩ s l) := by
  have h1 : ¬ i.val < 24 := by omega
  have h2 : i.val - 24 < 8 := by omega
  have h3 : i.val < 32 := by omega
  pointwise [slots, h1, h2, h3]

theorem slots_k (z : FVec Ideal S2x24x16384x128 .bf16) (q : FVec Ideal S2x8x16384x128 .bf16) (k v : FVec Ideal S2x2x16384x128 .bf16)
    (b : Fin 2) (i : Fin 60) (s : Fin 16384) (l : Fin 128) (h : 32 ≤ i.val) (h' : i.val < 34) :
    slots z q k v (ix4 b i s l) = k (ix4 b ⟨i.val - 32, by omega⟩ s l) := by
  have h1 : ¬ i.val < 24 := by omega
  have h2 : ¬ i.val - 24 < 8 := by omega
  have h3 : i.val - 32 < 2 := by omega
  have e : i.val - 24 - 8 = i.val - 32 := by omega
  pointwise [slots, h1, h2, h3, e]

theorem slots_v (z : FVec Ideal S2x24x16384x128 .bf16) (q : FVec Ideal S2x8x16384x128 .bf16) (k v : FVec Ideal S2x2x16384x128 .bf16)
    (b : Fin 2) (i : Fin 60) (s : Fin 16384) (l : Fin 128) (h : 34 ≤ i.val) (h' : i.val < 36) :
    slots z q k v (ix4 b i s l) = v (ix4 b ⟨i.val - 34, by omega⟩ s l) := by
  have h1 : ¬ i.val < 24 := by omega
  have h2 : ¬ i.val - 24 < 8 := by omega
  have h3 : ¬ i.val - 24 - 8 < 2 := by omega
  have h4 : i.val - 34 < 2 := by omega
  have e : i.val - 24 - 8 - 2 = i.val - 34 := by omega
  pointwise [slots, h1, h2, h3, h4, e]

variable (m : (ℓ : Loc nD τ sig) → Buf (Elt Ideal) ℓ) (c : Dev nD)

set_option maxHeartbeats 2000000 in
theorem slopes_eq : V m c main_v26 = Cert.ReferenceIdeal.Read.val_main_v14 (F := Ideal) := by
  entry_read
  rfl

set_option maxHeartbeats 2000000 in
theorem packed_eq : V m c main_v17
    = slots (broadcastInDim S2x24x16384x128 ![] bcast_S_S2x24x16384x128 (constant (F := Ideal) S_ .bf16 0x0000#16))
        (heads8 (m ((c : Thread nD τ).loc main_arg0))) (heads2 (m ((c : Thread nD τ).loc main_arg1)))
        (heads2 (m ((c : Thread nD τ).loc main_arg2))) := by
  unfold V
  after_results
  rfl

end Cert.Swa

end
-- ==== Proof.Swa.Band.lean ====
/- Two softmaxes over one query's keys, the keys in different orders: the band one block back and the clamped band. -/
module

public import proofs.«01_k».proof.Proof.Swa.Soft

@[expose] public section

set_option maxRecDepth 16384

noncomputable section

namespace Cert.Swa

open Idealize.ShloMosaic

/-- The dot product of zero-padded vectors, the scale on one factor, is the scaled dot product. -/
theorem band_dot (fq fk : Fin 64 → EReal) :
    (∑ x : Fin 128, (if h : x.val < 64 then fq ⟨x.val, h⟩ else 0) * Ideal.ofBits .bf16 15872#16
        * (if h : x.val < 64 then fk ⟨x.val, h⟩ else 0))
      = (∑ x : Fin 64, fk x * fq x) * Ideal.ofBits .f32 1040187392#32 := by
  rw [eighth_bf16, eighth_f32, mul_sum_real _ (EReal.coe_nonneg.2 (by norm_num)) (EReal.coe_ne_top _), sum_lanes]
  · refine Finset.sum_congr rfl fun x _ => ?_
    rw [dif_pos x.isLt, dif_pos x.isLt, mul_comm (fk _), mul_assoc, mul_assoc, mul_comm (fk _)]
  · intro x hx
    rw [dif_neg (by omega), zero_mul, zero_mul]

/-- The masked logit of one query and one key: `d` their scaled dot product, `x` their distance. -/
def logit (ok : BitVec 1) (d slope : EReal) (x : BitVec 32) : EReal :=
  Scalar.select ok (d - slope * (FloatOps.sitofp .f32 x : Ideal .f32)) (⊥ : EReal)

theorem logit_zero (d slope : EReal) (x : BitVec 32) : logit 0#1 d slope x = ⊥ := rfl

/-- Whether the reference's key is a real one: not before the first block. -/
def real (n k : Nat) : BitVec 1 :=
  IntOp.ori (IntOp.cmpi .sgt (BitVec.ofNat 32 n) 0#32) (IntOp.cmpi .sge (BitVec.ofNat 32 k) 128#32)

theorem and_one (x : BitVec 1) : IntOp.andi x 1#1 = x := by revert x; decide
theorem and_zero (x : BitVec 1) : IntOp.andi x 0#1 = 0#1 := by revert x; decide

theorem real_later : ∀ n : Fin 128, n.val ≠ 0 → ∀ k : Nat, real n.val k = 1#1 := by
  intro n hn k
  have h : IntOp.cmpi .sgt (BitVec.ofNat 32 n.val) 0#32 = 1#1 := by
    revert hn; revert n; decide
  unfold real; rw [h]
  generalize IntOp.cmpi .sge (BitVec.ofNat 32 k) 128#32 = y
  revert y; decide

theorem real_first : ∀ k : Fin 256, real 0 k.val = if 128 ≤ k.val then 1#1 else 0#1 := by decide +kernel

theorem far : ∀ r : Fin 128, ∀ k : Fin 256, 128 ≤ k.val → near (relWord 0#32 r.val k.val) = 0#1 := by decide +kernel

theorem rel_shift : ∀ r : Fin 128, ∀ k : Fin 256, k.val < 128 → relWord 0#32 r.val k.val = relWord 128#32 r.val (k.val + 128) := by
  decide +kernel

theorem near_nonneg : ∀ x : BitVec 32, near x = 1#1 → 0 ≤ x.toInt := by
  intro x h
  by_contra hn
  have h0 : IntOp.cmpi .sge x 0#32 = 0#1 := by
    simp only [IntOp.cmpi, BitVec.sle, BitVec.toInt_zero]
    simp [hn]
  unfold near at h; rw [h0] at h
  revert h
  generalize IntOp.cmpi .slt x 128#32 = y
  revert y; decide

/-- A masked logit of a real dot product and a nonnegative slope is not `+∞`. -/
theorem logit_ne_top (ok : BitVec 1) (d slope : EReal) (x : BitVec 32) (hd : d ≠ ⊤) (hs : 0 ≤ slope) (hx : ok = 1#1 → 0 ≤ x.toInt) :
    logit ok d slope x ≠ ⊤ := by
  unfold logit Scalar.select
  split
  · rename_i h
    have h0 : (0 : EReal) ≤ slope * (FloatOps.sitofp .f32 x : Ideal .f32) :=
      mul_nonneg hs (EReal.coe_nonneg.2 (by exact_mod_cast hx h))
    have h1 : d - slope * (FloatOps.sitofp .f32 x : Ideal .f32) ≤ d := by
      rw [sub_eq_add_neg]
      exact (add_le_add le_rfl (EReal.neg_le_zero.2 h0)).trans (add_zero d).le
    exact (lt_of_le_of_lt h1 hd.lt_top).ne
  · exact bot_ne_top

theorem coe_sum {ι : Type} (t : Finset ι) (r : ι → ℝ) : ((∑ x ∈ t, r x : ℝ) : EReal) = ∑ x ∈ t, (r x : EReal) := by
  classical
  induction t using Finset.induction_on with
  | empty => simp
  | insert a t ha ih => rw [Finset.sum_insert ha, Finset.sum_insert ha, EReal.coe_add, ih]

/-- A sum of products of reals is a real. -/
theorem dot_real (fq fk : Fin 64 → EReal) (hq : ∀ x, fq x ≠ ⊤ ∧ fq x ≠ ⊥) (hk : ∀ x, fk x ≠ ⊤ ∧ fk x ≠ ⊥) :
    (∑ x : Fin 64, fk x * fq x) * Ideal.ofBits .f32 1040187392#32 ≠ ⊤ := by
  have h : ∀ x, ∃ r : ℝ, fk x * fq x = (r : EReal) := fun x => by
    obtain ⟨a, ha⟩ : ∃ a : ℝ, (a : EReal) = fk x := ⟨_, EReal.coe_toReal (hk x).1 (hk x).2⟩
    obtain ⟨b, hb⟩ : ∃ b : ℝ, (b : EReal) = fq x := ⟨_, EReal.coe_toReal (hq x).1 (hq x).2⟩
    exact ⟨a * b, by rw [← ha, ← hb, EReal.coe_mul]⟩
  choose r hr using h
  have hsum : (∑ x : Fin 64, fk x * fq x) = ((∑ x, r x : ℝ) : EReal) := by
    rw [coe_sum]; exact Finset.sum_congr rfl fun x _ => hr x
  rw [hsum, eighth_f32, ← EReal.coe_mul]
  exact EReal.coe_ne_top _

/-- The keys turned by half the band. -/
def turn : Equiv.Perm (Fin 256) where
  toFun k := ⟨(k.val + 128) % 256, by omega⟩
  invFun k := ⟨(k.val + 128) % 256, by omega⟩
  left_inv k := Fin.ext (by show ((k.val + 128) % 256 + 128) % 256 = k.val; omega)
  right_inv k := Fin.ext (by show ((k.val + 128) % 256 + 128) % 256 = k.val; omega)

theorem turn_low (k : Fin 256) (hk : k.val < 128) : (turn k).val = k.val + 128 := by
  show (k.val + 128) % 256 = _; omega

theorem turn_high (k : Fin 256) (hk : 128 ≤ k.val) : (turn k).val = k.val - 128 := by
  show (k.val + 128) % 256 = _; omega

/-- Both orders of one query's keys give one softmax: `n` the query's block, `r` its row, `w` the distance from the first
    key the kernel loads; in the first block the kernel's keys are the reference's turned by 128. -/
theorem soft_band (n r : Fin 128) (w : BitVec 32) (slope sink : EReal) (fq : Fin 64 → EReal) (kK kR : Fin 256 → Fin 64 → EReal)
    (vK vR : Fin 256 → EReal) (hw : w = if n.val = 0 then 0#32 else 128#32)
    (hslope : 0 ≤ slope) (ht : sink ≠ ⊤) (hb : sink ≠ ⊥) (hq : ∀ x, fq x ≠ ⊤ ∧ fq x ≠ ⊥) (hk : ∀ k x, kR k x ≠ ⊤ ∧ kR k x ≠ ⊥)
    (later : n.val ≠ 0 → ∀ k, kK k = kR k ∧ vK k = vR k)
    (first : n.val = 0 → ∀ k : Fin 128, kK ⟨k.val, by omega⟩ = kR ⟨k.val + 128, by omega⟩
      ∧ vK ⟨k.val, by omega⟩ = vR ⟨k.val + 128, by omega⟩) :
    soft (fun k => logit (near (relWord w r.val k.val))
        (∑ x : Fin 128, (if h : x.val < 64 then fq ⟨x.val, h⟩ else 0) * Ideal.ofBits .bf16 15872#16
          * (if h : x.val < 64 then kK k ⟨x.val, h⟩ else 0)) slope (relWord w r.val k.val)) sink vK
      = soft (fun k => logit (IntOp.andi (near (relWord 128#32 r.val k.val)) (real n.val k.val))
        ((∑ x : Fin 64, kR k x * fq x) * Ideal.ofBits .f32 1040187392#32) slope (relWord 128#32 r.val k.val)) sink vR := by
  simp only [band_dot]
  by_cases hn : n.val = 0
  · rw [if_pos hn] at hw; subst hw
    rw [← soft_perm turn (fun k => logit (IntOp.andi (near (relWord 128#32 r.val k.val)) (real n.val k.val))
        ((∑ x : Fin 64, kR k x * fq x) * Ideal.ofBits .f32 1040187392#32) slope (relWord 128#32 r.val k.val)) sink vR]
    have hs : (fun k : Fin 256 => logit (near (relWord 0#32 r.val k.val))
          ((∑ x : Fin 64, kK k x * fq x) * Ideal.ofBits .f32 1040187392#32) slope (relWord 0#32 r.val k.val))
        = fun k => logit (IntOp.andi (near (relWord 128#32 r.val (turn k).val)) (real n.val (turn k).val))
          ((∑ x : Fin 64, kR (turn k) x * fq x) * Ideal.ofBits .f32 1040187392#32) slope (relWord 128#32 r.val (turn k).val) := by
      funext k
      rw [hn, real_first]
      by_cases hk' : k.val < 128
      · have e : turn k = ⟨k.val + 128, by omega⟩ := Fin.ext (turn_low k hk')
        rw [turn_low k hk', if_pos (by omega), and_one, e, rel_shift r k hk', (first hn ⟨k.val, hk'⟩).1.symm]
      · rw [turn_high k (by omega), if_neg (by omega), and_zero, far r k (by omega), logit_zero, logit_zero]
    rw [hs]
    refine soft_congr _ _ _ _ (fun k => ?_) ht hb fun k => ?_
    · refine logit_ne_top _ _ _ _ (dot_real _ _ hq (hk _)) hslope fun h => near_nonneg _ ?_
      revert h
      generalize near (relWord 128#32 r.val (turn k).val) = a
      generalize real n.val (turn k).val = b
      revert a b; decide
    · by_cases hk' : k.val < 128
      · right
        have e : turn k = ⟨k.val + 128, by omega⟩ := Fin.ext (turn_low k hk')
        rw [e]; exact (first hn ⟨k.val, hk'⟩).2
      · left
        rw [hn, real_first, turn_high k (by omega), if_neg (by omega), and_zero, logit_zero]
  · rw [if_neg hn] at hw; subst hw
    have hv : vK = vR := funext fun k => (later hn k).2
    rw [hv]
    congr 1
    funext k
    rw [real_later n hn, and_one, (later hn k).1]

end Cert.Swa

end
-- ==== Proof.Swa.Kern.lean ====
/- The sliding window attention kernel's array, read tile by tile. -/
module

public import proofs.«01_k».proof.Proof.Swa.Tile
public import proofs.«01_k».proof.Proof.Swa.Ref
public import proofs.«01_k».proof.Proof.Swa.Entry
public import proofs.«01_k».proof.Proof.Swa.Band

@[expose] public section

set_option maxRecDepth 16384

noncomputable section

namespace Cert.Swa

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The blocks of the windows at grid point `t`. -/
theorem idx : ∀ t : Fin cfg0.N, win0_2.index t = ![t.val / 64, 6 + t.val / 32 % 2, t.val % 32, 0]
    ∧ win0_3.index t = ![t.val / 64, 32 + t.val / 32 % 2, 0, 0] ∧ win0_4.index t = ![t.val / 64, 34 + t.val / 32 % 2, 0, 0]
    ∧ win0_5.index t = ![t.val / 64, t.val % 32, t.val / 32 % 2] ∧ win0_0.index t = ![0] ∧ win0_1.index t = ![0] :=
  (by decide +kernel : ∀ t : Fin grid0.N, _)

/-- The scalar blocks, the key offsets and the distances of the four tiles at grid point `t`. -/
theorem offs : ∀ t : Fin cfg0.N, ∀ s g : Fin 4,
    k0_off1 (grid0.coords t) (BitVec.ofNat 32 (128 * s.val)) = ![0, 0, (t.val % 32 * 4 + s.val - 1) * 128, 0]
    ∧ k0_off2 (grid0.coords t) (BitVec.ofNat 32 g.val) = ![t.val / 32 % 2 * 4 + g.val] :=
  (by decide +kernel : ∀ t : Fin grid0.N, _)

/-- The distance from a tile's first query to the first key it loads, as the kernel counts it. -/
def dist (t : Fin cfg0.N) (a : BitVec 32) : BitVec 32 :=
  Scalar.subi (Scalar.addi (Scalar.muli (BitVec.ofNat 32 (grid0.coords t 2).val) 512#32) a)
    (Scalar.maxsi (Scalar.subi (Scalar.addi (Scalar.muli (BitVec.ofNat 32 (grid0.coords t 2).val) 512#32) a) 128#32) 0#32)

theorem dist_eq : ∀ t : Fin cfg0.N, ∀ s : Fin 4,
    dist t (BitVec.ofNat 32 (128 * s.val)) = if t.val % 32 * 4 + s.val = 0 then 0#32 else 128#32 :=
  (by decide +kernel : ∀ t : Fin grid0.N, _)

theorem N_eq : cfg0.N = 128 := by decide +kernel

/-- A query lane of tile `s`, head `g`. -/
theorem read_q (t : Fin cfg0.N) (s g : Fin 4) (o : Fin 4 → ℕ) (ho : o = ![0, g.val, 128 * s.val, 0])
    (hr : ∀ a : Fin 4, o a + (![1, 1, 128, 128] : Fin 4 → ℕ) a ≤ S1x4x512x128.size a) (h0 : t.val < 128) (r l : Fin 128) :
    View.ld (iblk m c 2 t) (Rect.unit (s := S1x4x512x128) o ![1, 1, 128, 128] hr) (ix4 0 0 r l)
      = if h : l.val < 64 then m ((c : Thread nD τ).loc main_arg0) (ix3 ⟨t.val / 64, by omega⟩
          ⟨(t.val % 32 * 4 + s.val) * 128 + r.val, by omega⟩ ⟨(t.val / 32 % 2 * 4 + g.val) * 64 + l.val, by omega⟩) else (0 : EReal) := by
  have e : View.ld (iblk m c 2 t) (Rect.unit (s := S1x4x512x128) o ![1, 1, 128, 128] hr) (ix4 0 0 r l)
      = V m c main_v17 (ix4 ⟨t.val / 64, by omega⟩ ⟨24 + t.val / 32 % 2 * 4 + g.val, by omega⟩
          ⟨t.val % 32 * 512 + 128 * s.val + r.val, by omega⟩ l) := by
    subst ho
    pointwise []
    blk_ext [iblk, idx t]
  rw [e, packed_eq, slots_q _ _ _ _ _ _ _ _ (by show 24 ≤ 24 + _ + _; omega) (by show 24 + _ + _ < 32; omega), heads8_at]
  by_cases hl : l.val < 64
  · rw [dif_pos hl, dif_pos hl]; blk_ext
  · rw [dif_neg hl, dif_neg hl]

/-- A key lane. -/
theorem read_k (t : Fin cfg0.N) (n : ℕ) (o : Fin 4 → ℕ) (ho : o = ![0, 0, n * 128, 0]) (hn : n < 127)
    (hr : ∀ a : Fin 4, o a + (![1, 1, 256, 128] : Fin 4 → ℕ) a ≤ S1x1x16384x128.size a) (h0 : t.val < 128) (k : Fin 256) (l : Fin 128) :
    View.ld (iblk m c 3 t) (Rect.unit (s := S1x1x16384x128) o ![1, 1, 256, 128] hr) (ix4 0 0 k l)
      = if h : l.val < 64 then m ((c : Thread nD τ).loc main_arg1) (ix3 ⟨t.val / 64, by omega⟩
          ⟨n * 128 + k.val, by omega⟩ ⟨t.val / 32 % 2 * 64 + l.val, by omega⟩) else (0 : EReal) := by
  have e : View.ld (iblk m c 3 t) (Rect.unit (s := S1x1x16384x128) o ![1, 1, 256, 128] hr) (ix4 0 0 k l)
      = V m c main_v17 (ix4 ⟨t.val / 64, by omega⟩ ⟨32 + t.val / 32 % 2, by omega⟩ ⟨n * 128 + k.val, by omega⟩ l) := by
    subst ho
    pointwise []
    blk_ext [iblk, idx t]
  rw [e, packed_eq, slots_k _ _ _ _ _ _ _ _ (by show 32 ≤ 32 + _; omega) (by show 32 + _ < 34; omega), heads2_at]
  by_cases hl : l.val < 64
  · rw [dif_pos hl, dif_pos hl]; blk_ext
  · rw [dif_neg hl, dif_neg hl]

/-- A value lane. -/
theorem read_v (t : Fin cfg0.N) (n : ℕ) (o : Fin 4 → ℕ) (ho : o = ![0, 0, n * 128, 0]) (hn : n < 127)
    (hr : ∀ a : Fin 4, o a + (![1, 1, 256, 128] : Fin 4 → ℕ) a ≤ S1x1x16384x128.size a) (h0 : t.val < 128) (k : Fin 256) (d : Fin 64)
    (hd : d.val < 128) :
    View.ld (iblk m c 4 t) (Rect.unit (s := S1x1x16384x128) o ![1, 1, 256, 128] hr) (ix4 0 0 k ⟨d.val, hd⟩)
      = m ((c : Thread nD τ).loc main_arg2) (ix3 ⟨t.val / 64, by omega⟩
          ⟨n * 128 + k.val, by omega⟩ ⟨t.val / 32 % 2 * 64 + d.val, by omega⟩) := by
  have e : View.ld (iblk m c 4 t) (Rect.unit (s := S1x1x16384x128) o ![1, 1, 256, 128] hr) (ix4 0 0 k ⟨d.val, hd⟩)
      = V m c main_v17 (ix4 ⟨t.val / 64, by omega⟩ ⟨34 + t.val / 32 % 2, by omega⟩ ⟨n * 128 + k.val, by omega⟩ ⟨d.val, hd⟩) := by
    subst ho
    pointwise []
    blk_ext [iblk, idx t]
  rw [e, packed_eq, slots_v _ _ _ _ _ _ _ _ (by show 34 ≤ 34 + _; omega) (by show 34 + _ < 36; omega), heads2_at, dif_pos d.isLt]
  blk_ext

theorem read_slope (t : Fin cfg0.N) (n : ℕ) (o : Fin 1 → ℕ) (ho : o = ![n]) (hn : n < 8)
    (hr : ∀ a : Fin 1, o a + (![1] : Fin 1 → ℕ) a ≤ S8.size a) (h : 0 < S1.numel) :
    View.ld (iblk m c 1 t) (Rect.unit (s := S8) o ![1] hr) (Shape.Idx.first h)
      = Cert.ReferenceIdeal.Read.val_main_v14 (F := Ideal) (ix1 ⟨n, hn⟩) := by
  rw [← slopes_eq m c]
  subst ho
  pointwise []
  blk_ext [iblk, idx t]

theorem read_sink (t : Fin cfg0.N) (n : ℕ) (o : Fin 1 → ℕ) (ho : o = ![n]) (hn : n < 8)
    (hr : ∀ a : Fin 1, o a + (![1] : Fin 1 → ℕ) a ≤ S8.size a) (h : 0 < S1.numel) :
    View.ld (iblk m c 0 t) (Rect.unit (s := S8) o ![1] hr) (Shape.Idx.first h)
      = m ((c : Thread nD τ).loc main_arg3) (ix1 ⟨n, hn⟩) := by
  rw [← V_main_arg3 m c]
  subst ho
  pointwise []
  blk_ext [iblk, idx t]

theorem slope_nonneg (i : Fin 8) : 0 ≤ Cert.ReferenceIdeal.Read.val_main_v14 (F := Ideal) (ix1 i) := by
  rw [Cert.ReferenceIdeal.Read.val_main_v14_apply, Cert.ReferenceIdeal.Read.val_main_v13_apply,
    Cert.ReferenceIdeal.Read.val_main_cst_2_apply]
  show 0 ≤ Ideal.pow (Ideal.ofBits .f32 0x40000000#32) _
  rw [two_f32]
  exact pow_two_nonneg _

/-- Queries, keys and sinks hold no infinity. -/
def Finite (Q : FVec Ideal S2x16384x512 .f32) (K : FVec Ideal S2x16384x128 .f32) (Z : FVec Ideal S8 .f32) : Prop :=
  (∀ i, Q i ≠ (⊤ : EReal) ∧ Q i ≠ (⊥ : EReal)) ∧ (∀ i, K i ≠ (⊤ : EReal) ∧ K i ≠ (⊥ : EReal)) ∧ ∀ i, Z i ≠ (⊤ : EReal) ∧ Z i ≠ (⊥ : EReal)

/-- What tile `s` of head `g` stores at grid point `t` is the reference's result there. -/
theorem tile_eq (hf : Finite (m ((c : Thread nD τ).loc main_arg0)) (m ((c : Thread nD τ).loc main_arg1)) (m ((c : Thread nD τ).loc main_arg3)))
    (t : Fin cfg0.N) (h0 : t.val < 128) (s g : Fin 4) (oq : Fin 4 → ℕ) (hoq : oq = ![0, g.val, 128 * s.val, 0])
    (hq : ∀ a : Fin 4, oq a + (![1, 1, 128, 128] : Fin 4 → ℕ) a ≤ S1x4x512x128.size a)
    (hk : ∀ a : Fin 4, k0_off1 (grid0.coords t) (BitVec.ofNat 32 (128 * s.val)) a + (![1, 1, 256, 128] : Fin 4 → ℕ) a ≤ S1x1x16384x128.size a)
    (hs : ∀ a : Fin 1, k0_off2 (grid0.coords t) (BitVec.ofNat 32 g.val) a + (![1] : Fin 1 → ℕ) a ≤ S8.size a) (h1 : 0 < S1.numel)
    (r : Fin 128) (d : Fin 64) :
    outTile (logitTile (dist t (BitVec.ofNat 32 (128 * s.val)))
        (View.ld (iblk m c 2 t) (Rect.unit (s := S1x4x512x128) oq ![1, 1, 128, 128] hq))
        (View.ld (iblk m c 3 t) (Rect.unit (s := S1x1x16384x128) (k0_off1 (grid0.coords t) (BitVec.ofNat 32 (128 * s.val))) ![1, 1, 256, 128] hk))
        (View.ld (iblk m c 1 t) (Rect.unit (s := S8) (k0_off2 (grid0.coords t) (BitVec.ofNat 32 g.val)) ![1] hs) (Shape.Idx.first h1)))
      (View.ld (iblk m c 0 t) (Rect.unit (s := S8) (k0_off2 (grid0.coords t) (BitVec.ofNat 32 g.val)) ![1] hs) (Shape.Idx.first h1))
      (View.ld (iblk m c 4 t) (Rect.unit (s := S1x1x16384x128) (k0_off1 (grid0.coords t) (BitVec.ofNat 32 (128 * s.val))) ![1, 1, 256, 128] hk))
      (ix3 0 r d)
      = Cert.ReferenceIdeal.Read.val_main_v93 (F := Ideal) (m ((c : Thread nD τ).loc main_arg0)) (m ((c : Thread nD τ).loc main_arg1))
          (m ((c : Thread nD τ).loc main_arg2)) (m ((c : Thread nD τ).loc main_arg3))
          (ix3 ⟨t.val / 64, by omega⟩ ⟨(t.val % 32 * 4 + s.val) * 128 + r.val, by omega⟩
            ⟨(t.val / 32 % 2 * 4 + g.val) * 64 + d.val, by omega⟩) := by
  obtain ⟨hQ, hK, hZ⟩ := hf
  have hn : t.val % 32 * 4 + s.val - 1 < 127 := by omega
  have hoff := offs t s g
  rw [outTile_at, read_slope m c t _ _ hoff.2 (by omega) hs h1, read_sink m c t _ _ hoff.2 (by omega) hs h1, dist_eq t s]
  refine Eq.trans ?_ ((soft_band ⟨t.val % 32 * 4 + s.val, by omega⟩ r _
      (Cert.ReferenceIdeal.Read.val_main_v14 (F := Ideal) (ix1 ⟨t.val / 32 % 2 * 4 + g.val, by omega⟩))
      (m ((c : Thread nD τ).loc main_arg3) (ix1 ⟨t.val / 32 % 2 * 4 + g.val, by omega⟩))
      (fun x => m ((c : Thread nD τ).loc main_arg0) (ix3 ⟨t.val / 64, by omega⟩
          ⟨(t.val % 32 * 4 + s.val) * 128 + r.val, by omega⟩ ⟨(t.val / 32 % 2 * 4 + g.val) * 64 + x.val, by omega⟩))
      (fun k x => m ((c : Thread nD τ).loc main_arg1) (ix3 ⟨t.val / 64, by omega⟩
          ⟨(t.val % 32 * 4 + s.val - 1) * 128 + k.val, by omega⟩ ⟨t.val / 32 % 2 * 64 + x.val, by omega⟩))
      (fun k x => Cert.ReferenceIdeal.Read.val_main_v26 (F := Ideal) (m ((c : Thread nD τ).loc main_arg1))
        (ix5 ⟨t.val / 64, by omega⟩ ⟨t.val / 32 % 2, by omega⟩ ⟨t.val % 32 * 4 + s.val, by omega⟩ k x))
      (fun k => m ((c : Thread nD τ).loc main_arg2) (ix3 ⟨t.val / 64, by omega⟩
          ⟨(t.val % 32 * 4 + s.val - 1) * 128 + k.val, by omega⟩ ⟨t.val / 32 % 2 * 64 + d.val, by omega⟩))
      (fun k => Cert.ReferenceIdeal.Read.val_main_v27 (F := Ideal) (m ((c : Thread nD τ).loc main_arg2))
        (ix5 ⟨t.val / 64, by omega⟩ ⟨t.val / 32 % 2, by omega⟩ ⟨t.val % 32 * 4 + s.val, by omega⟩ k d))
      rfl (slope_nonneg _) (hZ _).1 (hZ _).2 (fun x => hQ _) (fun k x => ?_) (fun h k => ⟨?_, ?_⟩) (fun h k => ⟨?_, ?_⟩)).trans ?_)
  · congr 1
    · funext k
      simp only [logitTile_at, read_q m c t s g oq hoq hq h0, read_k m c t _ _ hoff.1 hn hk h0]
      rfl
    · funext k
      exact read_v m c t _ _ hoff.1 hn hk h0 k d _
  · rw [kband_at]
    split
    · split
      · exact ⟨EReal.zero_ne_top, EReal.zero_ne_bot⟩
      · exact hK _
    · exact hK _
  · funext x
    have h' : ¬ t.val % 32 * 4 + s.val = 0 := h
    rw [kband_at]
    split
    · rw [dif_neg (by show ¬ t.val % 32 * 4 + s.val < 1; omega)]
    · blk_ext
  · have h' : ¬ t.val % 32 * 4 + s.val = 0 := h
    rw [vband_at]
    split
    · rw [dif_neg (by show ¬ t.val % 32 * 4 + s.val < 1; omega)]
    · blk_ext
  · funext x
    have h' : t.val % 32 * 4 + s.val = 0 := h
    rw [kband_at, dif_neg (by show ¬ k.val + 128 < 128; omega)]
    blk_ext
  · have h' : t.val % 32 * 4 + s.val = 0 := h
    rw [vband_at, dif_neg (by show ¬ k.val + 128 < 128; omega)]
    blk_ext
  · rw [ref_at _ _ _ _ ⟨t.val / 64, by omega⟩ ⟨t.val / 32 % 2, by omega⟩ g ⟨t.val % 32 * 4 + s.val, by omega⟩ r d]
    congr 1
    funext k
    rw [logit_at, valid_at, dot_at]
    simp only [q_at]
    rfl

/-- So at any index of the tile and of the array. -/
theorem tile_at (hf : Finite (m ((c : Thread nD τ).loc main_arg0)) (m ((c : Thread nD τ).loc main_arg1)) (m ((c : Thread nD τ).loc main_arg3)))
    (t : Fin cfg0.N) (h0 : t.val < 128) (s g : Fin 4) (oq : Fin 4 → ℕ) (hoq : oq = ![0, g.val, 128 * s.val, 0])
    (hq : ∀ a : Fin 4, oq a + (![1, 1, 128, 128] : Fin 4 → ℕ) a ≤ S1x4x512x128.size a)
    (hk : ∀ a : Fin 4, k0_off1 (grid0.coords t) (BitVec.ofNat 32 (128 * s.val)) a + (![1, 1, 256, 128] : Fin 4 → ℕ) a ≤ S1x1x16384x128.size a)
    (hs : ∀ a : Fin 1, k0_off2 (grid0.coords t) (BitVec.ofNat 32 g.val) a + (![1] : Fin 1 → ℕ) a ≤ S8.size a) (h1 : 0 < S1.numel)
    (x : S1x128x64.Idx) (j : S2x16384x512.Idx) (e0 : (j 0).val = t.val / 64) (e1 : (j 1).val = (t.val % 32 * 4 + s.val) * 128 + (x 1).val)
    (e2 : (j 2).val = (t.val / 32 % 2 * 4 + g.val) * 64 + (x 2).val) :
    outTile (logitTile (dist t (BitVec.ofNat 32 (128 * s.val)))
        (View.ld (iblk m c 2 t) (Rect.unit (s := S1x4x512x128) oq ![1, 1, 128, 128] hq))
        (View.ld (iblk m c 3 t) (Rect.unit (s := S1x1x16384x128) (k0_off1 (grid0.coords t) (BitVec.ofNat 32 (128 * s.val))) ![1, 1, 256, 128] hk))
        (View.ld (iblk m c 1 t) (Rect.unit (s := S8) (k0_off2 (grid0.coords t) (BitVec.ofNat 32 g.val)) ![1] hs) (Shape.Idx.first h1)))
      (View.ld (iblk m c 0 t) (Rect.unit (s := S8) (k0_off2 (grid0.coords t) (BitVec.ofNat 32 g.val)) ![1] hs) (Shape.Idx.first h1))
      (View.ld (iblk m c 4 t) (Rect.unit (s := S1x1x16384x128) (k0_off1 (grid0.coords t) (BitVec.ofNat 32 (128 * s.val))) ![1, 1, 256, 128] hk))
      x
      = Cert.ReferenceIdeal.Read.val_main_v93 (F := Ideal) (m ((c : Thread nD τ).loc main_arg0)) (m ((c : Thread nD τ).loc main_arg1))
          (m ((c : Thread nD τ).loc main_arg2)) (m ((c : Thread nD τ).loc main_arg3)) j := by
  have hx : x = (ix3 (0 : Fin 1) (⟨(x 1).val, (x 1).isLt⟩ : Fin 128) (⟨(x 2).val, (x 2).isLt⟩ : Fin 64) : S1x128x64.Idx) := by
    funext a
    match a with | ⟨0, _⟩ => exact Fin.ext (Nat.lt_one_iff.1 (x 0).isLt) | ⟨1, _⟩ => rfl | ⟨2, _⟩ => rfl
  refine (congrArg _ hx).trans ((tile_eq m c hf t h0 s g oq hoq hq hk hs h1 ⟨(x 1).val, (x 1).isLt⟩ ⟨(x 2).val, (x 2).isLt⟩).trans
    (congrArg _ (?_ : (_ : S2x16384x512.Idx) = j)))
  funext a
  match a with | ⟨0, _⟩ => exact Fin.ext e0.symm | ⟨1, _⟩ => exact Fin.ext e1.symm | ⟨2, _⟩ => exact Fin.ext e2.symm

set_option maxHeartbeats 4000000 in
/-- The array the kernel leaves is the reference's result. -/
theorem final (hf : Finite (m ((c : Thread nD τ).loc main_arg0)) (m ((c : Thread nD τ).loc main_arg1)) (m ((c : Thread nD τ).loc main_arg3))) :
    (dats m 0 c).arrAt 5 cfg0.N = Cert.ReferenceIdeal.Read.val_main_v93 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 5 _ (by decide +kernel) fun t _ y => ?_
  have hN : t.val < 128 := lt_of_lt_of_eq t.isLt N_eq
  blk_simp
  rw [after0_5]
  unfold outsAt0
  frame_out
  canon_tiles x h
  case piece0 => refine tile_at m c hf t hN 3 3 ![0, 3, 384, 0] rfl _ _ _ _ x _ ?_ ?_ ?_ <;> (blk_simp [idx t] <;> try omega)
  case piece1 => refine tile_at m c hf t hN 3 2 ![0, 2, 384, 0] rfl _ _ _ _ x _ ?_ ?_ ?_ <;> (blk_simp [idx t] <;> try omega)
  case piece2 => refine tile_at m c hf t hN 3 1 ![0, 1, 384, 0] rfl _ _ _ _ x _ ?_ ?_ ?_ <;> (blk_simp [idx t] <;> try omega)
  case piece3 => refine tile_at m c hf t hN 3 0 ![0, 0, 384, 0] rfl _ _ _ _ x _ ?_ ?_ ?_ <;> (blk_simp [idx t] <;> try omega)
  case piece4 => refine tile_at m c hf t hN 2 3 ![0, 3, 256, 0] rfl _ _ _ _ x _ ?_ ?_ ?_ <;> (blk_simp [idx t] <;> try omega)
  case piece5 => refine tile_at m c hf t hN 2 2 ![0, 2, 256, 0] rfl _ _ _ _ x _ ?_ ?_ ?_ <;> (blk_simp [idx t] <;> try omega)
  case piece6 => refine tile_at m c hf t hN 2 1 ![0, 1, 256, 0] rfl _ _ _ _ x _ ?_ ?_ ?_ <;> (blk_simp [idx t] <;> try omega)
  case piece7 => refine tile_at m c hf t hN 2 0 ![0, 0, 256, 0] rfl _ _ _ _ x _ ?_ ?_ ?_ <;> (blk_simp [idx t] <;> try omega)
  case piece8 => refine tile_at m c hf t hN 1 3 ![0, 3, 128, 0] rfl _ _ _ _ x _ ?_ ?_ ?_ <;> (blk_simp [idx t] <;> try omega)
  case piece9 => refine tile_at m c hf t hN 1 2 ![0, 2, 128, 0] rfl _ _ _ _ x _ ?_ ?_ ?_ <;> (blk_simp [idx t] <;> try omega)
  case piece10 => refine tile_at m c hf t hN 1 1 ![0, 1, 128, 0] rfl _ _ _ _ x _ ?_ ?_ ?_ <;> (blk_simp [idx t] <;> try omega)
  case piece11 => refine tile_at m c hf t hN 1 0 ![0, 0, 128, 0] rfl _ _ _ _ x _ ?_ ?_ ?_ <;> (blk_simp [idx t] <;> try omega)
  case piece12 => refine tile_at m c hf t hN 0 3 ![0, 3, 0, 0] rfl _ _ _ _ x _ ?_ ?_ ?_ <;> (blk_simp [idx t] <;> try omega)
  case piece13 => refine tile_at m c hf t hN 0 2 ![0, 2, 0, 0] rfl _ _ _ _ x _ ?_ ?_ ?_ <;> (blk_simp [idx t] <;> try omega)
  case piece14 => refine tile_at m c hf t hN 0 1 ![0, 1, 0, 0] rfl _ _ _ _ x _ ?_ ?_ ?_ <;> (blk_simp [idx t] <;> try omega)
  case piece15 => refine tile_at m c hf t hN 0 0 ![0, 0, 0, 0] rfl _ _ _ _ x _ ?_ ?_ ?_ <;> (blk_simp [idx t] <;> try omega)

end Cert.Swa

end
-- ==== Proof.Swa.Pre.lean ====
/- The precondition of the windowed attention, read as a statement about its arguments. -/
module

public import proofs.«01_k».proof.Defs
public import proofs.«01_k».proof.Proof.Swa.Kern

@[expose] public section

noncomputable section

namespace Cert.Swa

open Idealize.ShloMosaic Idealize.SL.Sem

/-- The shapes that the precondition broadcasts to. -/
theorem pre_facts : Cert.Pre_finite.Facts := ⟨by decide, by decide, by decide⟩

/-- A magnitude below infinity is that of a real. -/
theorem lt_inf (x : EReal) (h : Ideal.cmp .olt (max x (-x)) (Ideal.ofBits .f32 0x7F800000#32) = 1#1) : x ≠ ⊤ ∧ x ≠ ⊥ := by
  have e : Ideal.ofBits .f32 0x7F800000#32 = (⊤ : EReal) := by simp [Ideal.ofBits, Ideal.ieee]
  rw [e] at h
  constructor <;> (rintro rfl; simp [Ideal.cmp] at h)

/-- Under the precondition, queries, keys and sinks hold no infinity. -/
theorem finite_of_pre [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) :
    Finite (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) :=
  ⟨fun i => lt_inf _ (congrFun (h c).1 i), fun i => lt_inf _ (congrFun (h c).2.1 i), fun i => lt_inf _ (congrFun (h c).2.2 i)⟩

end Cert.Swa

end
-- ==== Proof.Merge.Ref.lean ====
/- What the reference of the merge computes at one row and column. -/
module

public import proofs.«01_k».proof.Proof.Gen.Reference2Ideal.Read
public import Idealize.ShloMosaic.Lib.Pipeline.ValueKit
public import Idealize.ShloMosaic.Lib.Pointwise
public import Idealize.ShloMosaic.Lib.Claim

@[expose] public section

set_option maxRecDepth 16384

noncomputable section

namespace Cert.Merge

open Idealize.ShloMosaic Idealize.SL.Sem
open Cert.Reference2Ideal Cert.Reference2Ideal.Read

/-- A row's mean over its 2048 columns. -/
def mean (z : Fin 2048 → EReal) : EReal := Ideal.div (∑ k : Fin 2048, z k) (Ideal.ofBits .f32 0x45000000#32)

/-- One entry of a row, normalised, scaled by `g` and moved by `b`. -/
def normed (z : Fin 2048 → EReal) (g b : EReal) (j : Fin 2048) : EReal :=
  (z j - mean z) * Ideal.rsqrt (mean (fun k => (z k - mean z) * (z k - mean z)) + Ideal.ofBits .f32 0x3727C5AC#32) * g + b

/-- One entry of a branch's projection: the heads times the activations, against the weights. -/
def branch (o s : Fin 512 → EReal) (w : Fin 512 → Fin 2048 → EReal) (d : Fin 2048) : EReal := ∑ k : Fin 512, o k * s k * w k d

/-- One entry of the row that is normalised: the scaled residual, and the gated branches against the output's weights. -/
def merged (x : Fin 2048 → EReal) (s0 s1 s2 : Fin 512 → EReal) (g0 g1 g2 : Fin 2048 → EReal) (o0 o1 o2 : Fin 512 → EReal)
    (w0 w1 w2 : Fin 512 → Fin 2048 → EReal) (wo : Fin 2048 → Fin 2048 → EReal) (j : Fin 2048) : EReal :=
  Ideal.ofBits .f32 0x3FB504F3#32 * x j
    + ∑ d : Fin 2048, (g0 d * branch o0 s0 w0 d + g1 d * branch o1 s1 w1 d + g2 d * branch o2 s2 w2 d) * wo d j

variable (x0 : FVec Ideal S2x16384x2048 .f32) (x1 x2 x3 : FVec Ideal S2x16384x512 .f32) (x4 x5 x6 : FVec Ideal S2x16384x2048 .f32)
  (x7 x8 x9 : FVec Ideal S2x16384x512 .f32) (x10 x11 x12 : FVec Ideal S512x2048 .f32) (x13 : FVec Ideal S2048x2048 .f32) (x14 x15 : FVec Ideal S2048 .f32)
  (i : Fin 2) (s : Fin 16384)

theorem br0_at (d : Fin 2048) : val_main_v1 (F := Ideal) x1 x7 x10 (ix3 i s d)
    = branch (fun k => x7 (ix3 i s k)) (fun k => x1 (ix3 i s k)) (fun k d => x10 (ix2 k d)) d := by
  pointwise [val_main_v1, val_main_v0, branch]

theorem br1_at (d : Fin 2048) : val_main_v3 (F := Ideal) x2 x8 x11 (ix3 i s d)
    = branch (fun k => x8 (ix3 i s k)) (fun k => x2 (ix3 i s k)) (fun k d => x11 (ix2 k d)) d := by
  pointwise [val_main_v3, val_main_v2, branch]

theorem br2_at (d : Fin 2048) : val_main_v5 (F := Ideal) x3 x9 x12 (ix3 i s d)
    = branch (fun k => x9 (ix3 i s k)) (fun k => x3 (ix3 i s k)) (fun k d => x12 (ix2 k d)) d := by
  pointwise [val_main_v5, val_main_v4, branch]

/-- The gated sum of the branches. -/
theorem mix_at (d : Fin 2048) : val_main_v10 (F := Ideal) x1 x2 x3 x4 x5 x6 x7 x8 x9 x10 x11 x12 (ix3 i s d)
    = x4 (ix3 i s d) * branch (fun k => x7 (ix3 i s k)) (fun k => x1 (ix3 i s k)) (fun k d => x10 (ix2 k d)) d
      + x5 (ix3 i s d) * branch (fun k => x8 (ix3 i s k)) (fun k => x2 (ix3 i s k)) (fun k d => x11 (ix2 k d)) d
      + x6 (ix3 i s d) * branch (fun k => x9 (ix3 i s k)) (fun k => x3 (ix3 i s k)) (fun k d => x12 (ix2 k d)) d := by
  rw [val_main_v10_apply, val_main_v9_apply, val_main_v8_apply, val_main_v7_apply, val_main_v6_apply, br0_at, br1_at, br2_at]
  rfl

/-- The row that is normalised. -/
theorem pre_at (j : Fin 2048) : val_main_v14 (F := Ideal) x0 x1 x2 x3 x4 x5 x6 x7 x8 x9 x10 x11 x12 x13 (ix3 i s j)
    = merged (fun k => x0 (ix3 i s k)) (fun k => x1 (ix3 i s k)) (fun k => x2 (ix3 i s k)) (fun k => x3 (ix3 i s k))
        (fun k => x4 (ix3 i s k)) (fun k => x5 (ix3 i s k)) (fun k => x6 (ix3 i s k)) (fun k => x7 (ix3 i s k)) (fun k => x8 (ix3 i s k)) (fun k => x9 (ix3 i s k))
        (fun k d => x10 (ix2 k d)) (fun k d => x11 (ix2 k d)) (fun k d => x12 (ix2 k d)) (fun k d => x13 (ix2 k d)) j := by
  have h : ∀ y : FVec Ideal S2x16384x2048 .f32, Host.dotGeneral dot_S2x16384x2048_S2048x2048_S2x16384x2048_2_0_01_1_n_n none y x13 (ix3 i s j)
      = ∑ d : Fin 2048, y (ix3 i s d) * x13 (ix2 d j) := by intro y; pointwise []
  rw [val_main_v14_apply, val_main_v13_apply, val_main_v12_apply, val_main_cst_apply]
  unfold val_main_v11 merged
  refine congrArg (Ideal.ofBits .f32 0x3FB504F3#32 * x0 (ix3 i s j) + ·) ((h _).trans (Fin.sum_fin_congr fun d => ?_))
  rw [mix_at]

/-- The reference at one row and column. -/
theorem norm_at (j : Fin 2048) : val_main_v38 (F := Ideal) x0 x1 x2 x3 x4 x5 x6 x7 x8 x9 x10 x11 x12 x13 x14 x15 (ix3 i s j)
    = normed (fun k => val_main_v14 (F := Ideal) x0 x1 x2 x3 x4 x5 x6 x7 x8 x9 x10 x11 x12 x13 (ix3 i s k)) (x14 (ix1 j)) (x15 (ix1 j)) j := by
  unfold val_main_v38 val_main_v35 val_main_v32 val_main_v27 val_main_v31 val_main_v30 val_main_v29 val_main_v26 val_main_v25 val_main_v23 val_main_v22
    val_main_v21 val_main_v20 val_main_v19 val_main_v18 val_main_v16 val_main_v15
  generalize val_main_v14 (F := Ideal) x0 x1 x2 x3 x4 x5 x6 x7 x8 x9 x10 x11 x12 x13 = z
  pointwise [val_main_v37, val_main_v36, val_main_v34, val_main_v33, val_main_v28, val_main_v24, val_main_v17, val_main_cst_0, val_main_cst_1, val_main_cst_2, val_main_cst_3, val_main_cst_4, normed, mean]

end Cert.Merge

end
-- ==== Proof.Zg.Ref.lean ====
/- What the reference of the gates' projection computes at one row and column. -/
module

public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384

noncomputable section

namespace Cert.Zg

open Idealize.ShloMosaic Idealize.SL.Sem
open Cert.Reference3Ideal Cert.Reference3Ideal.Read

/-- The column of the projection that output column `j` shows: three activated segments, then the three gates. -/
def pick (j : ℕ) : ℕ :=
  if j < 512 then 1536 + j else if j < 1024 then 2824 + (j - 512) else if j < 1536 then 4872 + (j - 1024) else 5384 + (j - 1536)

theorem pick_lt (j : Fin 7680) : pick j.val < 11528 := by unfold pick; split_ifs <;> omega

/-- The projection of row `r` at column `n`. -/
def hid (x : FVec Ideal S2x16384x2048 .f32) (w : FVec Ideal S2048x11528 .f32) (b : FVec Ideal S11528 .f32) (r : Fin 32768) (n : Fin 11528) : EReal :=
  (∑ k : Fin 2048, x (ix3 ⟨r.val / 16384, by omega⟩ ⟨r.val % 16384, by omega⟩ k) * w (ix2 k n)) + b (ix1 n)

variable (x : FVec Ideal S2x16384x2048 .f32) (w : FVec Ideal S2048x11528 .f32) (b : FVec Ideal S11528 .f32)

theorem hid_at (i : Fin 2) (s : Fin 16384) (n : Fin 11528) :
    val_main_v3 (F := Ideal) x w b (ix3 i s n) = hid x w b ⟨i.val * 16384 + s.val, by omega⟩ n := by
  have h1 : (i.val * 16384 + s.val) / 16384 = i.val := by omega
  have h2 : (i.val * 16384 + s.val) % 16384 = s.val := by omega
  pointwise [val_main_v3, val_main_v2, val_main_v1, val_main_v0, hid]
  simp only [h1, h2]

theorem one_f32 : Ideal.ofBits .f32 0x3F800000#32 = 1 := by
  simp [Ideal.ofBits, Ideal.ieee, -EReal.coe_mul, ← EReal.coe_mul]; norm_num

/-- The logistic function as the reference divides. -/
theorem logistic_eq (a : EReal) :
    Ideal.div (Ideal.ofBits .f32 0x3F800000#32) (Ideal.ofBits .f32 0x3F800000#32 + Ideal.exp (-a)) = Ideal.logistic a := by
  rw [one_f32]; rfl

theorem silu0_at (i : S2x16384x512.Idx) : val_main_v20 (F := Ideal) x w b i = val_main_v7 (F := Ideal) x w b i * Ideal.logistic (val_main_v7 (F := Ideal) x w b i) := by
  rw [val_main_v20_apply, val_main_call0_v5_apply, val_main_call0_v4_apply, val_main_call0_v3_apply, val_main_call0_v2_apply, val_main_call0_v1_apply, val_main_call0_v0_apply, val_main_call0_cst_apply, val_main_call0_cst_0_apply, ← logistic_eq]
  rfl

theorem silu1_at (i : S2x16384x512.Idx) : val_main_v21 (F := Ideal) x w b i = val_main_v12 (F := Ideal) x w b i * Ideal.logistic (val_main_v12 (F := Ideal) x w b i) := by
  rw [val_main_v21_apply, val_main_call1_v5_apply, val_main_call1_v4_apply, val_main_call1_v3_apply, val_main_call1_v2_apply, val_main_call1_v1_apply, val_main_call1_v0_apply, val_main_call1_cst_apply, val_main_call1_cst_0_apply, ← logistic_eq]
  rfl

theorem silu2_at (i : S2x16384x512.Idx) : val_main_v22 (F := Ideal) x w b i = val_main_v16 (F := Ideal) x w b i * Ideal.logistic (val_main_v16 (F := Ideal) x w b i) := by
  rw [val_main_v22_apply, val_main_call2_v5_apply, val_main_call2_v4_apply, val_main_call2_v3_apply, val_main_call2_v2_apply, val_main_call2_v1_apply, val_main_call2_v0_apply, val_main_call2_cst_apply, val_main_call2_cst_0_apply, ← logistic_eq]
  rfl

theorem gate0_at (i : S2x16384x2048.Idx) : val_main_v28 (F := Ideal) x w b i = Ideal.logistic (val_main_v17 (F := Ideal) x w b i) := by
  rw [val_main_v28_apply, val_main_v27_apply, val_main_v26_apply, val_main_v25_apply, val_main_v24_apply, val_main_v23_apply, val_main_cst_apply, val_main_cst_0_apply, ← logistic_eq]
  rfl

theorem gate1_at (i : S2x16384x2048.Idx) : val_main_v34 (F := Ideal) x w b i = Ideal.logistic (val_main_v18 (F := Ideal) x w b i) := by
  rw [val_main_v34_apply, val_main_v33_apply, val_main_v32_apply, val_main_v31_apply, val_main_v30_apply, val_main_v29_apply, val_main_cst_1_apply, val_main_cst_2_apply, ← logistic_eq]
  rfl

theorem gate2_at (i : S2x16384x2048.Idx) : val_main_v40 (F := Ideal) x w b i = Ideal.logistic (val_main_v19 (F := Ideal) x w b i) := by
  rw [val_main_v40_apply, val_main_v39_apply, val_main_v38_apply, val_main_v37_apply, val_main_v36_apply, val_main_v35_apply, val_main_cst_3_apply, val_main_cst_4_apply, ← logistic_eq]
  rfl

/-- Six arrays laid side by side, read at a column. -/
theorem side_at (a0 a1 a2 : FVec Ideal S2x16384x512 .f32) (g0 g1 g2 : FVec Ideal S2x16384x2048 .f32) (i : Fin 2) (s : Fin 16384) (j : Fin 7680)
    (h : Shape.Concatenates [S2x16384x512, S2x16384x512, S2x16384x512, S2x16384x2048, S2x16384x2048, S2x16384x2048] S2x16384x7680 2) :
    concatenate S2x16384x7680 2 [⟨S2x16384x512, a0⟩, ⟨S2x16384x512, a1⟩, ⟨S2x16384x512, a2⟩, ⟨S2x16384x2048, g0⟩, ⟨S2x16384x2048, g1⟩, ⟨S2x16384x2048, g2⟩]
        h (ix3 i s j)
      = if _ : j.val < 512 then a0 (ix3 i s ⟨j.val, by omega⟩) else if _ : j.val - 512 < 512 then a1 (ix3 i s ⟨j.val - 512, by omega⟩)
        else if _ : j.val - 512 - 512 < 512 then a2 (ix3 i s ⟨j.val - 512 - 512, by omega⟩) else if _ : j.val - 512 - 512 - 512 < 2048 then g0 (ix3 i s ⟨j.val - 512 - 512 - 512, by omega⟩)
        else if _ : j.val - 512 - 512 - 512 - 2048 < 2048 then g1 (ix3 i s ⟨j.val - 512 - 512 - 512 - 2048, by omega⟩) else g2 (ix3 i s ⟨j.val - 512 - 512 - 512 - 2048 - 2048, by omega⟩) := by
  pointwise []

/-- The reference at one row and column: the projection at the column shown, activated. -/
theorem ref_at (r : Fin 32768) (j : Fin 7680) : val_main_v43 (F := Ideal) x w b (ix2 r j)
      = (if j.val < 1536 then hid x w b r ⟨pick j.val, pick_lt j⟩ else 1) * Ideal.logistic (hid x w b r ⟨pick j.val, pick_lt j⟩) := by
  have e : val_main_v43 (F := Ideal) x w b (ix2 r j) = val_main_v41 (F := Ideal) x w b (ix3 ⟨r.val / 16384, by omega⟩ ⟨r.val % 16384, by omega⟩ j) := by
    rw [val_main_v43_apply, val_main_v42_apply]
    refine congrArg (val_main_v41 (F := Ideal) x w b) (funext fun a => Fin.ext ?_)
    match a with
    | ⟨0, _⟩ => show (r.val * 7680 + j.val) / 125829120 = r.val / 16384; omega
    | ⟨1, _⟩ => show (r.val * 7680 + j.val) / 7680 % 16384 = r.val % 16384; omega
    | ⟨2, _⟩ => show (r.val * 7680 + j.val) % 7680 = j.val; omega
  have hr : ∀ n n' : Fin 11528, n = n' → hid x w b ⟨r.val / 16384 * 16384 + r.val % 16384, by omega⟩ n = hid x w b r n' := by
    rintro n _ rfl; congr 1; exact Fin.ext (by show r.val / 16384 * 16384 + r.val % 16384 = r.val; omega)
  have hp := pick_lt j
  rw [e]
  unfold val_main_v41
  rw [side_at]
  simp only [silu0_at, silu1_at, silu2_at, gate0_at, gate1_at, gate2_at]
  have read : ∀ (n : Fin 11528) (k : S2x16384x11528.Idx), (k 0).val = r.val / 16384 → (k 1).val = r.val % 16384 → (k 2).val = n.val →
      val_main_v3 (F := Ideal) x w b k = hid x w b r n := by
    intro n k h0 h1 h2
    have ek : k = ix3 ⟨r.val / 16384, by omega⟩ ⟨r.val % 16384, by omega⟩ n := funext fun a => Fin.ext (by
      match a with
      | ⟨0, _⟩ => exact h0
      | ⟨1, _⟩ => exact h1
      | ⟨2, _⟩ => exact h2)
    rw [ek, hid_at]
    exact hr _ _ rfl
  simp only [val_main_v7_apply, val_main_v12_apply, val_main_v16_apply, val_main_v17_apply, val_main_v18_apply, val_main_v19_apply]
  split_ifs
  all_goals try omega
  · have q : pick j.val = 1536 + j.val := by unfold pick; split_ifs <;> omega
    rw [read ⟨pick j.val, pick_lt j⟩ _ ?_ ?_ ?_]
    · rfl
    · rfl
    · exact q.symm
  · have q : pick j.val = 2824 + (j.val - 512) := by unfold pick; split_ifs <;> omega
    rw [read ⟨pick j.val, pick_lt j⟩ _ ?_ ?_ ?_]
    · rfl
    · rfl
    · exact q.symm
  · have q : pick j.val = 4872 + (j.val - 512 - 512) := by unfold pick; split_ifs <;> omega
    rw [read ⟨pick j.val, pick_lt j⟩ _ ?_ ?_ ?_]
    · rfl
    · rfl
    · exact q.symm
  · have q : pick j.val = 5384 + (j.val - 512 - 512 - 512) := by unfold pick; split_ifs <;> omega
    rw [one_mul, read ⟨pick j.val, pick_lt j⟩ _ ?_ ?_ ?_]
    · rfl
    · rfl
    · exact q.symm
  · have q : pick j.val = 7432 + (j.val - 512 - 512 - 512 - 2048) := by unfold pick; split_ifs <;> omega
    rw [one_mul, read ⟨pick j.val, pick_lt j⟩ _ ?_ ?_ ?_]
    · rfl
    · rfl
    · exact q.symm
  · have q : pick j.val = 9480 + (j.val - 512 - 512 - 512 - 2048 - 2048) := by unfold pick; split_ifs <;> omega
    rw [one_mul, read ⟨pick j.val, pick_lt j⟩ _ ?_ ?_ ?_]
    · rfl
    · rfl
    · exact q.symm

end Cert.Zg

end
-- ==== Proof.Merge.Entry.lean ====
/- The arrays the merge's kernel reads, as the host lays them out. -/
module

public import proofs.«01_k».proof.Proof.Gen.Kernel2Ideal.Value
public import proofs.«01_k».proof.Proof.Merge.Ref
public import proofs.«01_k».proof.Proof.Zg.Ref

@[expose] public section

set_option maxRecDepth 16384

noncomputable section

namespace Cert.Merge

open Idealize.ShloMosaic Idealize.ShloMosaic.TcCoe Idealize.SL.Sem
open Cert.Kernel2Ideal Cert.Kernel2Ideal.Gen

theorem flat512_at {φ : FTy} (x : FVec Ideal S2x16384x512 φ) (h : S2x16384x512.ShapeCasts S32768x512) (R : Fin 32768) (k : Fin 512) :
    shapeCast S32768x512 x h (ix2 R k) = x (ix3 ⟨R.val / 16384, by omega⟩ ⟨R.val % 16384, by omega⟩ k) :=
  shapeCast_apply x h (ix2 R k) (ix3 ⟨R.val / 16384, by omega⟩ ⟨R.val % 16384, by omega⟩ k) (by
    rewrite [Shape.rowMajor_val_three, Shape.rowMajor_val_two]
    show (R.val / 16384 * 16384 + R.val % 16384) * 512 + k.val = R.val * 512 + k.val
    omega)

theorem flat2048_at {φ : FTy} (x : FVec Ideal S2x16384x2048 φ) (h : S2x16384x2048.ShapeCasts S32768x2048) (R : Fin 32768) (k : Fin 2048) :
    shapeCast S32768x2048 x h (ix2 R k) = x (ix3 ⟨R.val / 16384, by omega⟩ ⟨R.val % 16384, by omega⟩ k) :=
  shapeCast_apply x h (ix2 R k) (ix3 ⟨R.val / 16384, by omega⟩ ⟨R.val % 16384, by omega⟩ k) (by
    rewrite [Shape.rowMajor_val_three, Shape.rowMajor_val_two]
    show (R.val / 16384 * 16384 + R.val % 16384) * 2048 + k.val = R.val * 2048 + k.val
    omega)

theorem flat7680_at {φ : FTy} (x : FVec Ideal S2x16384x7680 φ) (h : S2x16384x7680.ShapeCasts S32768x7680) (R : Fin 32768) (k : Fin 7680) :
    shapeCast S32768x7680 x h (ix2 R k) = x (ix3 ⟨R.val / 16384, by omega⟩ ⟨R.val % 16384, by omega⟩ k) :=
  shapeCast_apply x h (ix2 R k) (ix3 ⟨R.val / 16384, by omega⟩ ⟨R.val % 16384, by omega⟩ k) (by
    rewrite [Shape.rowMajor_val_three, Shape.rowMajor_val_two]
    show (R.val / 16384 * 16384 + R.val % 16384) * 7680 + k.val = R.val * 7680 + k.val
    omega)

variable (m : (ℓ : Loc nD τ sig) → Buf (Elt Ideal) ℓ) (c : Dev nD)

/-- The residual's rows. -/
theorem rows_at (R : Fin 32768) (k : Fin 2048) : V m c main_v7 (ix2 R k) = m ((c : Thread nD τ).loc main_arg0) (ix3 ⟨R.val / 16384, by omega⟩ ⟨R.val % 16384, by omega⟩ k) := by
  have e : V m c main_v7 = shapeCast S32768x2048 (m ((c : Thread nD τ).loc main_arg0)) shapeCasts_S2x16384x2048_S32768x2048 := by
    unfold V; after_results; rfl
  exact (congrFun e (ix2 R k)).trans (flat2048_at (φ := .f32) _ _ R k)

/-! ## The branches' heads -/

/-- A branch's heads, row after row. -/
def heads (x : FVec Ideal S2x16384x512 .f32) : FVec Ideal S32768x512 .bf16 :=
  shapeCast S32768x512 (truncf .bf16 x bitsLt_bf16_f32) shapeCasts_S2x16384x512_S32768x512

theorem heads_at (x : FVec Ideal S2x16384x512 .f32) (R : Fin 32768) (k : Fin 512) :
    heads x (ix2 R k) = x (ix3 ⟨R.val / 16384, by omega⟩ ⟨R.val % 16384, by omega⟩ k) :=
  flat512_at _ _ R k

theorem heads0_at (R : Fin 32768) (k : Fin 512) : V m c main_v9 (ix2 R k) = m ((c : Thread nD τ).loc main_arg7) (ix3 ⟨R.val / 16384, by omega⟩ ⟨R.val % 16384, by omega⟩ k) := by
  have e : V m c main_v9 = heads (m ((c : Thread nD τ).loc main_arg7)) := by
    unfold V; after_results; rfl
  exact (congrFun e (ix2 R k)).trans (heads_at _ R k)

theorem heads1_at (R : Fin 32768) (k : Fin 512) : V m c main_v11 (ix2 R k) = m ((c : Thread nD τ).loc main_arg8) (ix3 ⟨R.val / 16384, by omega⟩ ⟨R.val % 16384, by omega⟩ k) := by
  have e : V m c main_v11 = heads (m ((c : Thread nD τ).loc main_arg8)) := by
    unfold V; after_results; rfl
  exact (congrFun e (ix2 R k)).trans (heads_at _ R k)

theorem heads2_at (R : Fin 32768) (k : Fin 512) : V m c main_v13 (ix2 R k) = m ((c : Thread nD τ).loc main_arg9) (ix3 ⟨R.val / 16384, by omega⟩ ⟨R.val % 16384, by omega⟩ k) := by
  have e : V m c main_v13 = heads (m ((c : Thread nD τ).loc main_arg9)) := by
    unfold V; after_results; rfl
  exact (congrFun e (ix2 R k)).trans (heads_at _ R k)

/-! ## The activations and the gates, side by side -/

/-- The six arrays side by side, row after row. -/
def side (a0 a1 a2 : FVec Ideal S2x16384x512 .f32) (g0 g1 g2 : FVec Ideal S2x16384x2048 .f32) : FVec Ideal S32768x7680 .bf16 :=
  shapeCast S32768x7680 (truncf .bf16 (concatenate S2x16384x7680 2
    [⟨S2x16384x512, a0⟩, ⟨S2x16384x512, a1⟩, ⟨S2x16384x512, a2⟩, ⟨S2x16384x2048, g0⟩, ⟨S2x16384x2048, g1⟩, ⟨S2x16384x2048, g2⟩]
    concatenates_S2x16384x512_S2x16384x512_S2x16384x512_S2x16384x2048_S2x16384x2048_S2x16384x2048_S2x16384x7680_d2) bitsLt_bf16_f32)
    shapeCasts_S2x16384x7680_S32768x7680

theorem side_eq (R : Fin 32768) (j : Fin 7680) : V m c main_v2 (ix2 R j)
    = if _ : j.val < 512 then m ((c : Thread nD τ).loc main_arg1) (ix3 ⟨R.val / 16384, by omega⟩ ⟨R.val % 16384, by omega⟩ ⟨j.val, by omega⟩)
      else if _ : j.val - 512 < 512 then m ((c : Thread nD τ).loc main_arg2) (ix3 ⟨R.val / 16384, by omega⟩ ⟨R.val % 16384, by omega⟩ ⟨j.val - 512, by omega⟩)
      else if _ : j.val - 512 - 512 < 512 then m ((c : Thread nD τ).loc main_arg3) (ix3 ⟨R.val / 16384, by omega⟩ ⟨R.val % 16384, by omega⟩ ⟨j.val - 512 - 512, by omega⟩)
      else if _ : j.val - 512 - 512 - 512 < 2048 then m ((c : Thread nD τ).loc main_arg4) (ix3 ⟨R.val / 16384, by omega⟩ ⟨R.val % 16384, by omega⟩ ⟨j.val - 512 - 512 - 512, by omega⟩)
      else if _ : j.val - 512 - 512 - 512 - 2048 < 2048 then m ((c : Thread nD τ).loc main_arg5) (ix3 ⟨R.val / 16384, by omega⟩ ⟨R.val % 16384, by omega⟩ ⟨j.val - 512 - 512 - 512 - 2048, by omega⟩)
      else m ((c : Thread nD τ).loc main_arg6) (ix3 ⟨R.val / 16384, by omega⟩ ⟨R.val % 16384, by omega⟩ ⟨j.val - 512 - 512 - 512 - 2048 - 2048, by omega⟩) := by
  have e : V m c main_v2 = side (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
    unfold V; after_results; rfl
  exact ((congrFun e (ix2 R j)).trans (flat7680_at _ _ R j)).trans
    (Cert.Zg.side_at _ _ _ _ _ _ _ _ _ concatenates_S2x16384x512_S2x16384x512_S2x16384x512_S2x16384x2048_S2x16384x2048_S2x16384x2048_S2x16384x7680_d2)

theorem seg0_at (R : Fin 32768) (k : Fin 512) : V m c main_v2 (ix2 R ⟨0 + k.val, by omega⟩) = m ((c : Thread nD τ).loc main_arg1) (ix3 ⟨R.val / 16384, by omega⟩ ⟨R.val % 16384, by omega⟩ k) := by
  rw [side_eq, dif_pos (by simp only; omega)]
  exact congrArg (m ((c : Thread nD τ).loc main_arg1)) (congrArg (ix3 _ _) (Fin.ext (by simp only; omega)))

theorem seg1_at (R : Fin 32768) (k : Fin 512) : V m c main_v2 (ix2 R ⟨512 + k.val, by omega⟩) = m ((c : Thread nD τ).loc main_arg2) (ix3 ⟨R.val / 16384, by omega⟩ ⟨R.val % 16384, by omega⟩ k) := by
  rw [side_eq, dif_neg (by simp only; omega), dif_pos (by simp only; omega)]
  exact congrArg (m ((c : Thread nD τ).loc main_arg2)) (congrArg (ix3 _ _) (Fin.ext (by simp only; omega)))

theorem seg2_at (R : Fin 32768) (k : Fin 512) : V m c main_v2 (ix2 R ⟨1024 + k.val, by omega⟩) = m ((c : Thread nD τ).loc main_arg3) (ix3 ⟨R.val / 16384, by omega⟩ ⟨R.val % 16384, by omega⟩ k) := by
  rw [side_eq, dif_neg (by simp only; omega), dif_neg (by simp only; omega), dif_pos (by simp only; omega)]
  exact congrArg (m ((c : Thread nD τ).loc main_arg3)) (congrArg (ix3 _ _) (Fin.ext (by simp only; omega)))

theorem seg3_at (R : Fin 32768) (k : Fin 2048) : V m c main_v2 (ix2 R ⟨1536 + k.val, by omega⟩) = m ((c : Thread nD τ).loc main_arg4) (ix3 ⟨R.val / 16384, by omega⟩ ⟨R.val % 16384, by omega⟩ k) := by
  rw [side_eq, dif_neg (by simp only; omega), dif_neg (by simp only; omega), dif_neg (by simp only; omega), dif_pos (by simp only; omega)]
  exact congrArg (m ((c : Thread nD τ).loc main_arg4)) (congrArg (ix3 _ _) (Fin.ext (by simp only; omega)))

theorem seg4_at (R : Fin 32768) (k : Fin 2048) : V m c main_v2 (ix2 R ⟨3584 + k.val, by omega⟩) = m ((c : Thread nD τ).loc main_arg5) (ix3 ⟨R.val / 16384, by omega⟩ ⟨R.val % 16384, by omega⟩ k) := by
  rw [side_eq, dif_neg (by simp only; omega), dif_neg (by simp only; omega), dif_neg (by simp only; omega), dif_neg (by simp only; omega), dif_pos (by simp only; omega)]
  exact congrArg (m ((c : Thread nD τ).loc main_arg5)) (congrArg (ix3 _ _) (Fin.ext (by simp only; omega)))

theorem seg5_at (R : Fin 32768) (k : Fin 2048) : V m c main_v2 (ix2 R ⟨5632 + k.val, by omega⟩) = m ((c : Thread nD τ).loc main_arg6) (ix3 ⟨R.val / 16384, by omega⟩ ⟨R.val % 16384, by omega⟩ k) := by
  rw [side_eq, dif_neg (by simp only; omega), dif_neg (by simp only; omega), dif_neg (by simp only; omega), dif_neg (by simp only; omega), dif_neg (by simp only; omega)]
  exact congrArg (m ((c : Thread nD τ).loc main_arg6)) (congrArg (ix3 _ _) (Fin.ext (by simp only; omega)))

/-! ## The weights and the normalisation's rows -/

/-- The three branches' weights stacked. -/
def stacked (w0 w1 w2 : FVec Ideal S512x2048 .f32) : FVec Ideal S3x512x2048 .f32 :=
  concatenate S3x512x2048 0
    [⟨S1x512x2048, broadcastInDim S1x512x2048 ![1, 2] bcast_S512x2048_S1x512x2048_1_2 w0⟩,
      ⟨S1x512x2048, broadcastInDim S1x512x2048 ![1, 2] bcast_S512x2048_S1x512x2048_1_2 w1⟩,
      ⟨S1x512x2048, broadcastInDim S1x512x2048 ![1, 2] bcast_S512x2048_S1x512x2048_1_2 w2⟩]
    concatenates_S1x512x2048_S1x512x2048_S1x512x2048_S3x512x2048_d0

theorem stacked_eq : V m c main_v14 = truncf .bf16 (stacked (m ((c : Thread nD τ).loc main_arg10)) (m ((c : Thread nD τ).loc main_arg11)) (m ((c : Thread nD τ).loc main_arg12))) bitsLt_bf16_f32 := by
  unfold V; after_results; rfl

theorem stacked_at (w0 w1 w2 : FVec Ideal S512x2048 .f32) (a : Fin 3) (k : Fin 512) (d : Fin 2048) :
    stacked w0 w1 w2 (ix3 a k d) = if a.val < 1 then w0 (ix2 k d) else if a.val - 1 < 1 then w1 (ix2 k d) else w2 (ix2 k d) := by
  pointwise [stacked]
  simp only [dite_eq_ite]

theorem wbr_at (a : Fin 3) (k : Fin 512) (d : Fin 2048) : V m c main_v14 (ix3 a k d)
    = if a.val < 1 then m ((c : Thread nD τ).loc main_arg10) (ix2 k d) else if a.val - 1 < 1 then m ((c : Thread nD τ).loc main_arg11) (ix2 k d) else m ((c : Thread nD τ).loc main_arg12) (ix2 k d) :=
  (congrFun (stacked_eq m c) (ix3 a k d)).trans (stacked_at _ _ _ a k d)

/-- The output's weights, narrowed. -/
def narrow (w : FVec Ideal S2048x2048 .f32) : FVec Ideal S2048x2048 .bf16 := truncf .bf16 w bitsLt_bf16_f32

theorem wout_at (d j : Fin 2048) : V m c main_v15 (ix2 d j) = m ((c : Thread nD τ).loc main_arg13) (ix2 d j) := by
  have e : V m c main_v15 = narrow (m ((c : Thread nD τ).loc main_arg13)) := by
    unfold V; after_results; rfl
  exact congrFun e (ix2 d j)

theorem row_at (x : FVec Ideal S2048 .f32) (j : Fin 2048) : broadcastInDim S1x2048 ![1] bcast_S2048_S1x2048_1 x (ix2 0 j) = x (ix1 j) := by
  pointwise []

theorem scale_at (j : Fin 2048) : V m c main_v16 (ix2 0 j) = m ((c : Thread nD τ).loc main_arg14) (ix1 j) := by
  have e : V m c main_v16 = broadcastInDim S1x2048 ![1] bcast_S2048_S1x2048_1 (m ((c : Thread nD τ).loc main_arg14)) := by
    unfold V; after_results
  exact (congrFun e (ix2 0 j)).trans (row_at _ j)

theorem shift_at (j : Fin 2048) : V m c main_v17 (ix2 0 j) = m ((c : Thread nD τ).loc main_arg15) (ix1 j) := by
  have e : V m c main_v17 = broadcastInDim S1x2048 ![1] bcast_S2048_S1x2048_1 (m ((c : Thread nD τ).loc main_arg15)) := by
    unfold V; after_results
  exact (congrFun e (ix2 0 j)).trans (row_at _ j)

end Cert.Merge

end
-- ==== Proof.Merge.Tile.lean ====
/- What the merge's kernel stores of one tile. -/
module

public import proofs.«01_k».proof.Proof.Gen.Kernel2Ideal.Value
public import proofs.«01_k».proof.Proof.Merge.Ref

@[expose] public section

set_option maxRecDepth 16384

noncomputable section

namespace Cert.Merge

open Idealize.ShloMosaic Idealize.ShloMosaic.TcCoe Idealize.SL.Sem
open Cert.Kernel2Ideal Cert.Kernel2Ideal.Gen

/-- A branch's tile: heads times activations against the weights. -/
def brTile (o s : FVec Ideal S512x512 .f32) (w : Vec Ideal S1x512x2048 .bf16) : FVec Ideal S512x2048 .f32 :=
  matmul (φ₁ := .bf16) (φ₂ := .bf16) dot_S512x512_S512x2048_S512x2048_1_0_0_1_n_n none (truncf .bf16 (mulf o s) bitsLt_bf16_f32)
    (shapeCast S512x2048 w shapeCasts_S1x512x2048_S512x2048 : FVec Ideal S512x2048 .bf16) (constant S512x2048 .f32 0x00000000#32)

theorem brTile_at (o s : FVec Ideal S512x512 .f32) (w : Vec Ideal S1x512x2048 .bf16) (r : Fin 512) (d : Fin 2048) :
    brTile o s w (ix2 r d) = branch (fun k => o (ix2 r k)) (fun k => s (ix2 r k)) (fun k d => w (ix3 0 k d)) d := by
  pointwise [brTile, branch]

theorem mix2_at (v1 v4 : Vec Ideal S512x512 .bf16) (v9 : Vec Ideal S512x2048 .bf16) (v12 : Vec Ideal S1x512x2048 .bf16)
    (v17 v20 : Vec Ideal S512x512 .bf16) (v25 : Vec Ideal S512x2048 .bf16) (v28 : Vec Ideal S1x512x2048 .bf16) (r : Fin 512) (d : Fin 2048) :
    k0_pay2 (F := Ideal) v1 v4 v9 v12 v17 v20 v25 v28 (ix2 r d)
      = v9 (ix2 r d) * branch (fun k => v4 (ix2 r k)) (fun k => v1 (ix2 r k)) (fun k d => v12 (ix3 0 k d)) d
        + v25 (ix2 r d) * branch (fun k => v20 (ix2 r k)) (fun k => v17 (ix2 r k)) (fun k d => v28 (ix3 0 k d)) d := by
  pointwise [k0_pay2, branch]

/-- The tile that is normalised. -/
def zTile (v32 : FVec Ideal S512x2048 .f32) (v35 : FVec Ideal S512x512 .f32) (v36 : Vec Ideal S512x512 .bf16) (v41 : Vec Ideal S512x2048 .bf16)
    (v44 : Vec Ideal S1x512x2048 .bf16) (v50 : Vec Ideal S2048x2048 .bf16) (v53 : Vec Ideal S512x2048 .f32) : FVec Ideal S512x2048 .f32 :=
  addf (mulf (broadcast S512x2048 (Scalar.ofBits .f32 0x3FB504F3#32 : Ideal .f32)) (shapeCast S512x2048 v53 shapeCasts_S512x2048_S512x2048 : FVec Ideal S512x2048 .f32))
    (matmul (φ₁ := .bf16) (φ₂ := .bf16) dot_S512x2048_S2048x2048_S512x2048_1_0_0_1_n_n none
      (truncf .bf16 (addf v32 (mulf (extf .f32 (shapeCast S512x2048 v41 shapeCasts_S512x2048_S512x2048 : FVec Ideal S512x2048 .bf16) bitsLt_bf16_f32)
        (brTile (extf .f32 (shapeCast S512x512 v36 shapeCasts_S512x512_S512x512 : FVec Ideal S512x512 .bf16) bitsLt_bf16_f32) v35 v44))) bitsLt_bf16_f32)
      (shapeCast S2048x2048 v50 shapeCasts_S2048x2048_S2048x2048 : FVec Ideal S2048x2048 .bf16) (constant S512x2048 .f32 0x00000000#32))

theorem zTile_at (v32 : FVec Ideal S512x2048 .f32) (v35 : FVec Ideal S512x512 .f32) (v36 : Vec Ideal S512x512 .bf16) (v41 : Vec Ideal S512x2048 .bf16)
    (v44 : Vec Ideal S1x512x2048 .bf16) (v50 : Vec Ideal S2048x2048 .bf16) (v53 : Vec Ideal S512x2048 .f32) (r : Fin 512) (j : Fin 2048) :
    zTile v32 v35 v36 v41 v44 v50 v53 (ix2 r j) = Ideal.ofBits .f32 0x3FB504F3#32 * v53 (ix2 r j)
      + ∑ d : Fin 2048, (v32 (ix2 r d) + v41 (ix2 r d) * branch (fun k => v36 (ix2 r k)) (fun k => v35 (ix2 r k)) (fun k d => v44 (ix3 0 k d)) d) * v50 (ix2 d j) := by
  pointwise [zTile, brTile, branch]

/-- The means of a tile's rows. -/
def meanTile (v57 : FVec Ideal S512x2048 .f32) : FVec Ideal S512x1 .f32 :=
  divf (shapeCast S512x1 (multiReduction .add [1] S512 v57 0x00000000#32 reduces_S512x2048_S512 (.inl rfl) rfl) shapeCasts_S512_S512x1)
    (broadcast S512x1 (Scalar.ofBits .f32 0x45000000#32 : Ideal .f32))

theorem meanTile_at (z : FVec Ideal S512x2048 .f32) (r : Fin 512) : meanTile z (ix2 r 0) = mean (fun k => z (ix2 r k)) := by
  pointwise [meanTile, mean]

/-- A tile less the means of its rows. -/
def devTile (v57 : FVec Ideal S512x2048 .f32) : FVec Ideal S512x2048 .f32 :=
  subf v57 (broadcastTo S512x2048 (meanTile v57) broadcasts_S512x1_S512x2048)

theorem devTile_at (z : FVec Ideal S512x2048 .f32) (r : Fin 512) (j : Fin 2048) : devTile z (ix2 r j) = z (ix2 r j) - mean (fun k => z (ix2 r k)) := by
  pointwise [devTile, meanTile_at]

/-- A tile normalised. -/
def nTile (d : FVec Ideal S512x2048 .f32) : FVec Ideal S512x2048 .f32 :=
  mulf d (broadcastTo S512x2048 (rsqrt (addf (meanTile (mulf d d)) (broadcast S512x1 (Scalar.ofBits .f32 0x3727C5AC#32 : Ideal .f32)))) broadcasts_S512x1_S512x2048)

theorem nTile_at (d : FVec Ideal S512x2048 .f32) (r : Fin 512) (j : Fin 2048) : nTile d (ix2 r j)
    = d (ix2 r j) * Ideal.rsqrt (mean (fun k => d (ix2 r k) * d (ix2 r k)) + Ideal.ofBits .f32 0x3727C5AC#32) := by
  pointwise [nTile, meanTile_at]

theorem pay4_eq (v32 : FVec Ideal S512x2048 .f32) (v35 : FVec Ideal S512x512 .f32) (v36 : Vec Ideal S512x512 .bf16) (v41 : Vec Ideal S512x2048 .bf16)
    (v44 : Vec Ideal S1x512x2048 .bf16) (v50 : Vec Ideal S2048x2048 .bf16) (v53 : Vec Ideal S512x2048 .f32) :
    k0_pay4 (F := Ideal) v32 v35 v36 v41 v44 v50 v53 = nTile (devTile (zTile v32 v35 v36 v41 v44 v50 v53)) := rfl

theorem pay1_at (v73 : FVec Ideal S512x2048 .f32) (v74 v78 : Vec Ideal S1x2048 .f32) (r : Fin 512) (j : Fin 2048) :
    k0_pay1 (F := Ideal) v73 v74 v78 (ix2 r j) = v73 (ix2 r j) * v74 (ix2 0 j) + v78 (ix2 0 j) := by
  pointwise [k0_pay1]

/-- What is stored of a tile: its rows merged and normalised. -/
theorem tile_at (v1 v4 : Vec Ideal S512x512 .bf16) (v9 : Vec Ideal S512x2048 .bf16) (v12 : Vec Ideal S1x512x2048 .bf16)
    (v17 v20 : Vec Ideal S512x512 .bf16) (v25 : Vec Ideal S512x2048 .bf16) (v28 : Vec Ideal S1x512x2048 .bf16)
    (v33 v36 : Vec Ideal S512x512 .bf16) (v41 : Vec Ideal S512x2048 .bf16) (v44 : Vec Ideal S1x512x2048 .bf16) (v50 : Vec Ideal S2048x2048 .bf16)
    (v53 : Vec Ideal S512x2048 .f32) (v74 v78 : Vec Ideal S1x2048 .f32) (r : Fin 512) (j : Fin 2048) :
    k0_pay1 (F := Ideal) (k0_pay4 (k0_pay2 v1 v4 v9 v12 v17 v20 v25 v28) (k0_pay3 v33) v36 v41 v44 v50 v53) v74 v78 (ix2 r j)
      = normed (merged (fun k => v53 (ix2 r k)) (fun k => v1 (ix2 r k)) (fun k => v17 (ix2 r k)) (fun k => v33 (ix2 r k))
          (fun k => v9 (ix2 r k)) (fun k => v25 (ix2 r k)) (fun k => v41 (ix2 r k)) (fun k => v4 (ix2 r k)) (fun k => v20 (ix2 r k)) (fun k => v36 (ix2 r k))
          (fun k d => v12 (ix3 0 k d)) (fun k d => v28 (ix3 0 k d)) (fun k d => v44 (ix3 0 k d)) (fun k d => v50 (ix2 k d)))
        (v74 (ix2 0 j)) (v78 (ix2 0 j)) j := by
  have h3 : ∀ k, k0_pay3 (F := Ideal) v33 (ix2 r k) = v33 (ix2 r k) := by intro k; pointwise [k0_pay3]
  have hz : ∀ k : Fin 2048, zTile (k0_pay2 v1 v4 v9 v12 v17 v20 v25 v28) (k0_pay3 v33) v36 v41 v44 v50 v53 (ix2 r k)
      = merged (fun k => v53 (ix2 r k)) (fun k => v1 (ix2 r k)) (fun k => v17 (ix2 r k)) (fun k => v33 (ix2 r k))
          (fun k => v9 (ix2 r k)) (fun k => v25 (ix2 r k)) (fun k => v41 (ix2 r k)) (fun k => v4 (ix2 r k)) (fun k => v20 (ix2 r k)) (fun k => v36 (ix2 r k))
          (fun k d => v12 (ix3 0 k d)) (fun k d => v28 (ix3 0 k d)) (fun k d => v44 (ix3 0 k d)) (fun k d => v50 (ix2 k d)) k := by
    intro k
    rw [zTile_at]
    unfold merged
    refine congrArg (_ + ·) (Fin.sum_fin_congr fun d => ?_)
    simp only [mix2_at, h3]
  rw [pay1_at, pay4_eq, nTile_at]
  simp only [devTile_at, hz]
  rfl

end Cert.Merge

end
-- ==== Proof.Merge.Kern.lean ====
/- What the merge's kernel leaves in its array. -/
module

public import proofs.«01_k».proof.Proof.Merge.Entry
public import proofs.«01_k».proof.Proof.Merge.Tile

@[expose] public section

set_option maxRecDepth 16384

noncomputable section

namespace Cert.Merge

open Idealize.ShloMosaic Idealize.ShloMosaic.TcCoe Idealize.SL.Sem
open Cert.Kernel2Ideal Cert.Kernel2Ideal.Gen

theorem N_eq : cfg0.N = 64 := N_0

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0, 0] ∧ win0_6.index t = ![0, 0] ∧ win0_7.index t = ![0, 0] ∧ win0_8.index t = ![0, 0]
    ∧ win0_9.index t = ![t.val, 0] :=
  (by decide +kernel : ∀ t : Fin grid0.N, _)

variable (m : (ℓ : Loc nD τ sig) → Buf (Elt Ideal) ℓ) (c : Dev nD)

/-- The row of the arrays that row `r` of point `t`'s blocks shows. -/
def row (t : Fin cfg0.N) (r : Fin 512) : Fin 32768 := ⟨t.val * 512 + r.val, by have := N_eq; omega⟩

/-! ## The loads of a point, as reads of the arrays -/

theorem ld_seg0 (t : Fin cfg0.N) (r : Fin 512) (k : Fin 512) :
    View.ld (iblk m c 1 t : Vec Ideal S512x7680 .bf16) r0_0 (ix2 r k) = V m c main_v2 (ix2 (row t r) ⟨0 + k.val, by omega⟩) := by
  pointwise []
  blk_ext [iblk, idx t, row]

theorem ld_seg1 (t : Fin cfg0.N) (r : Fin 512) (k : Fin 512) :
    View.ld (iblk m c 1 t : Vec Ideal S512x7680 .bf16) r0_4 (ix2 r k) = V m c main_v2 (ix2 (row t r) ⟨512 + k.val, by omega⟩) := by
  pointwise []
  blk_ext [iblk, idx t, row]

theorem ld_seg2 (t : Fin cfg0.N) (r : Fin 512) (k : Fin 512) :
    View.ld (iblk m c 1 t : Vec Ideal S512x7680 .bf16) r0_7 (ix2 r k) = V m c main_v2 (ix2 (row t r) ⟨1024 + k.val, by omega⟩) := by
  pointwise []
  blk_ext [iblk, idx t, row]

theorem ld_seg3 (t : Fin cfg0.N) (r : Fin 512) (k : Fin 2048) :
    View.ld (iblk m c 1 t : Vec Ideal S512x7680 .bf16) r0_2 (ix2 r k) = V m c main_v2 (ix2 (row t r) ⟨1536 + k.val, by omega⟩) := by
  pointwise []
  blk_ext [iblk, idx t, row]

theorem ld_seg4 (t : Fin cfg0.N) (r : Fin 512) (k : Fin 2048) :
    View.ld (iblk m c 1 t : Vec Ideal S512x7680 .bf16) r0_5 (ix2 r k) = V m c main_v2 (ix2 (row t r) ⟨3584 + k.val, by omega⟩) := by
  pointwise []
  blk_ext [iblk, idx t, row]

theorem ld_seg5 (t : Fin cfg0.N) (r : Fin 512) (k : Fin 2048) :
    View.ld (iblk m c 1 t : Vec Ideal S512x7680 .bf16) r0_8 (ix2 r k) = V m c main_v2 (ix2 (row t r) ⟨5632 + k.val, by omega⟩) := by
  pointwise []
  blk_ext [iblk, idx t, row]

theorem ld_heads0 (t : Fin cfg0.N) (r k : Fin 512) :
    (iblk m c 2 t : Vec Ideal S512x512 .bf16) (ix2 r k) = V m c main_v9 (ix2 (row t r) k) := by
  pointwise []
  blk_ext [iblk, idx t, row]

theorem ld_heads1 (t : Fin cfg0.N) (r k : Fin 512) :
    (iblk m c 3 t : Vec Ideal S512x512 .bf16) (ix2 r k) = V m c main_v11 (ix2 (row t r) k) := by
  pointwise []
  blk_ext [iblk, idx t, row]

theorem ld_heads2 (t : Fin cfg0.N) (r k : Fin 512) :
    (iblk m c 4 t : Vec Ideal S512x512 .bf16) (ix2 r k) = V m c main_v13 (ix2 (row t r) k) := by
  pointwise []
  blk_ext [iblk, idx t, row]

theorem ld_w0 (t : Fin cfg0.N) (k : Fin 512) (d : Fin 2048) :
    View.ld (iblk m c 5 t : Vec Ideal S3x512x2048 .bf16) r0_3 (ix3 0 k d) = V m c main_v14 (ix3 0 k d) := by
  pointwise []
  blk_ext [iblk, idx t, row]

theorem ld_w1 (t : Fin cfg0.N) (k : Fin 512) (d : Fin 2048) :
    View.ld (iblk m c 5 t : Vec Ideal S3x512x2048 .bf16) r0_6 (ix3 0 k d) = V m c main_v14 (ix3 1 k d) := by
  pointwise []
  blk_ext [iblk, idx t, row]

theorem ld_w2 (t : Fin cfg0.N) (k : Fin 512) (d : Fin 2048) :
    View.ld (iblk m c 5 t : Vec Ideal S3x512x2048 .bf16) r0_9 (ix3 0 k d) = V m c main_v14 (ix3 2 k d) := by
  pointwise []
  blk_ext [iblk, idx t, row]

theorem ld_wo (t : Fin cfg0.N) (k d : Fin 2048) :
    (iblk m c 6 t : Vec Ideal S2048x2048 .bf16) (ix2 k d) = V m c main_v15 (ix2 k d) := by
  pointwise []
  blk_ext [iblk, idx t, row]

theorem ld_x (t : Fin cfg0.N) (r : Fin 512) (k : Fin 2048) :
    (iblk m c 0 t : Vec Ideal S512x2048 .f32) (ix2 r k) = V m c main_v7 (ix2 (row t r) k) := by
  pointwise []
  blk_ext [iblk, idx t, row]

theorem ld_g (t : Fin cfg0.N) (k : Fin 2048) :
    (iblk m c 7 t : Vec Ideal S1x2048 .f32) (ix2 0 k) = V m c main_v16 (ix2 0 k) := by
  pointwise []
  blk_ext [iblk, idx t, row]

theorem ld_b (t : Fin cfg0.N) (k : Fin 2048) :
    (iblk m c 8 t : Vec Ideal S1x2048 .f32) (ix2 0 k) = V m c main_v17 (ix2 0 k) := by
  pointwise []
  blk_ext [iblk, idx t, row]

/-- The reference's result at a row and column. -/
theorem res_at (R : Fin 32768) (j : Fin 2048) : Cert.Reference2Ideal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix2 R j)
    = Cert.Reference2Ideal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix3 ⟨R.val / 16384, by omega⟩ ⟨R.val % 16384, by omega⟩ j) := by
  unfold Cert.Reference2Ideal.Read.val_main_v39
  exact flat2048_at (φ := .f32) _ _ R j

/-- The block stored at a point is the reference's. -/
theorem point (t : Fin cfg0.N) (r : Fin 512) (j : Fin 2048) :
    k0_pay1 (F := Ideal) (k0_pay4 (k0_pay2 (View.ld (iblk m c 1 t) r0_0) (iblk m c 2 t) (View.ld (iblk m c 1 t) r0_2) (View.ld (iblk m c 5 t) r0_3)
        (View.ld (iblk m c 1 t) r0_4) (iblk m c 3 t) (View.ld (iblk m c 1 t) r0_5) (View.ld (iblk m c 5 t) r0_6)) (k0_pay3 (View.ld (iblk m c 1 t) r0_7))
        (iblk m c 4 t) (View.ld (iblk m c 1 t) r0_8) (View.ld (iblk m c 5 t) r0_9) (iblk m c 6 t) (iblk m c 0 t))
        (iblk m c 7 t) (iblk m c 8 t) (ix2 r j)
      = Cert.Reference2Ideal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (ix2 (row t r) j) := by
  rw [tile_at, res_at, norm_at]
  simp only [pre_at]
  have w0 : ∀ (k : Fin 512) (d : Fin 2048), V m c main_v14 (ix3 0 k d) = m ((c : Thread nD τ).loc main_arg10) (ix2 k d) := fun k d => by
    rw [wbr_at, if_pos (by decide)]
  have w1 : ∀ (k : Fin 512) (d : Fin 2048), V m c main_v14 (ix3 1 k d) = m ((c : Thread nD τ).loc main_arg11) (ix2 k d) := fun k d => by
    rw [wbr_at, if_neg (by decide), if_pos (by decide)]
  have w2 : ∀ (k : Fin 512) (d : Fin 2048), V m c main_v14 (ix3 2 k d) = m ((c : Thread nD τ).loc main_arg12) (ix2 k d) := fun k d => by
    rw [wbr_at, if_neg (by decide), if_neg (by decide)]
  have hs0 : (fun k : Fin 512 => View.ld (iblk m c 1 t : Vec Ideal S512x7680 .bf16) r0_0 (ix2 r k)) = _ := funext fun k => (ld_seg0 m c t r k).trans (seg0_at m c (row t r) k)
  have hs1 : (fun k : Fin 512 => View.ld (iblk m c 1 t : Vec Ideal S512x7680 .bf16) r0_4 (ix2 r k)) = _ := funext fun k => (ld_seg1 m c t r k).trans (seg1_at m c (row t r) k)
  have hs2 : (fun k : Fin 512 => View.ld (iblk m c 1 t : Vec Ideal S512x7680 .bf16) r0_7 (ix2 r k)) = _ := funext fun k => (ld_seg2 m c t r k).trans (seg2_at m c (row t r) k)
  have hg0 : (fun k : Fin 2048 => View.ld (iblk m c 1 t : Vec Ideal S512x7680 .bf16) r0_2 (ix2 r k)) = _ := funext fun k => (ld_seg3 m c t r k).trans (seg3_at m c (row t r) k)
  have hg1 : (fun k : Fin 2048 => View.ld (iblk m c 1 t : Vec Ideal S512x7680 .bf16) r0_5 (ix2 r k)) = _ := funext fun k => (ld_seg4 m c t r k).trans (seg4_at m c (row t r) k)
  have hg2 : (fun k : Fin 2048 => View.ld (iblk m c 1 t : Vec Ideal S512x7680 .bf16) r0_8 (ix2 r k)) = _ := funext fun k => (ld_seg5 m c t r k).trans (seg5_at m c (row t r) k)
  have ho0 : (fun k : Fin 512 => (iblk m c 2 t : Vec Ideal S512x512 .bf16) (ix2 r k)) = _ := funext fun k => (ld_heads0 m c t r k).trans (heads0_at m c (row t r) k)
  have ho1 : (fun k : Fin 512 => (iblk m c 3 t : Vec Ideal S512x512 .bf16) (ix2 r k)) = _ := funext fun k => (ld_heads1 m c t r k).trans (heads1_at m c (row t r) k)
  have ho2 : (fun k : Fin 512 => (iblk m c 4 t : Vec Ideal S512x512 .bf16) (ix2 r k)) = _ := funext fun k => (ld_heads2 m c t r k).trans (heads2_at m c (row t r) k)
  have hw0 : (fun (k : Fin 512) (d : Fin 2048) => View.ld (iblk m c 5 t : Vec Ideal S3x512x2048 .bf16) r0_3 (ix3 0 k d)) = _ := funext fun k => funext fun d => (ld_w0 m c t k d).trans (w0 k d)
  have hw1 : (fun (k : Fin 512) (d : Fin 2048) => View.ld (iblk m c 5 t : Vec Ideal S3x512x2048 .bf16) r0_6 (ix3 0 k d)) = _ := funext fun k => funext fun d => (ld_w1 m c t k d).trans (w1 k d)
  have hw2 : (fun (k : Fin 512) (d : Fin 2048) => View.ld (iblk m c 5 t : Vec Ideal S3x512x2048 .bf16) r0_9 (ix3 0 k d)) = _ := funext fun k => funext fun d => (ld_w2 m c t k d).trans (w2 k d)
  have hwo : (fun (k d : Fin 2048) => (iblk m c 6 t : Vec Ideal S2048x2048 .bf16) (ix2 k d)) = _ := funext fun k => funext fun d => (ld_wo m c t k d).trans (wout_at m c k d)
  have hx : (fun k : Fin 2048 => (iblk m c 0 t : Vec Ideal S512x2048 .f32) (ix2 r k)) = _ := funext fun k => (ld_x m c t r k).trans (rows_at m c (row t r) k)
  rw [(ld_g m c t j).trans (scale_at m c j), (ld_b m c t j).trans (shift_at m c j)]
  refine congrArg (fun z => normed z _ _ j) ?_
  rw [hs0, hs1, hs2, hg0, hg1, hg2, ho0, ho1, ho2, hw0, hw1, hw2, hwo, hx]

/-- The array the kernel leaves is the reference's result. -/
theorem final : (dats m 0 c).arrAt 9 cfg0.N = Cert.Reference2Ideal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 9 _ (by decide +kernel) fun t _ y => ?_
  blk_simp
  rw [after0_9]
  frame_out
  have y0 : (y 0).val < 512 := (y 0).isLt
  have y1 : (y 1).val < 2048 := (y 1).isLt
  have ey : y = ix2 ⟨(y 0).val, y0⟩ ⟨(y 1).val, y1⟩ := funext fun a => Fin.ext (by
    match a with
    | ⟨0, _⟩ => rfl
    | ⟨1, _⟩ => rfl)
  have out : ∀ z : Cert.Reference2Ideal.S32768x2048.Idx, (z 0).val = t.val * 512 + (y 0).val → (z 1).val = (y 1).val →
      z = ix2 (row t ⟨(y 0).val, y0⟩) ⟨(y 1).val, y1⟩ := fun z h h' => funext fun a => Fin.ext (by
    match a with
    | ⟨0, _⟩ => exact h
    | ⟨1, _⟩ => exact h')
  refine ((congrArg (k0_pay1 (F := Ideal) _ _ _) ey).trans (point m c t ⟨(y 0).val, y0⟩ ⟨(y 1).val, y1⟩)).trans (congrArg _ (out _ ?_ ?_).symm)
  all_goals blk_simp [idx t]

end Cert.Merge

end
-- ==== Proof.Zg.Kern.lean ====
/- What the gates' projection kernel leaves in its array. -/
module

public import proofs.«01_k».proof.Proof.Gen.Kernel3Ideal.Value
public import proofs.«01_k».proof.Proof.Zg.Ref

@[expose] public section

set_option maxRecDepth 16384

noncomputable section

namespace Cert.Zg

open Idealize.ShloMosaic Idealize.ShloMosaic.TcCoe Idealize.SL.Sem
open Cert.Kernel3Ideal Cert.Kernel3Ideal.Gen

/-- Half the hyperbolic tangent of the half, and a half, is the logistic function. -/
theorem half_tanh (a : EReal) : Ideal.ofBits .f32 0x3F000000#32 * Ideal.tanh (Ideal.ofBits .f32 0x3F000000#32 * a) + Ideal.ofBits .f32 0x3F000000#32
    = Ideal.logistic a := by
  have h : Ideal.ofBits .f32 0x3F000000#32 = ((1 / 2 : ℝ) : EReal) := by
    simp [Ideal.ofBits, Ideal.ieee, -EReal.coe_mul]; norm_num
  have hp : (0 : ℝ) < 1 / 2 := by norm_num
  rw [h]
  induction a with
  | bot =>
    rw [EReal.coe_mul_bot_of_pos hp, Ideal.tanh_bot, Ideal.logistic_bot]
    rw [show (-1 : EReal) = ((-1 : ℝ) : EReal) by simp, ← EReal.coe_mul, ← EReal.coe_add]; norm_num
  | top =>
    rw [EReal.coe_mul_top_of_pos hp, Ideal.tanh_top, Ideal.logistic_top]
    rw [mul_one, ← EReal.coe_add]; norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e : Real.exp (-r) = Real.exp (-(r / 2)) * Real.exp (-(r / 2)) := by rw [← Real.exp_add]; congr 1; ring
    have hm : Real.exp (r / 2) * Real.exp (-(r / 2)) = 1 := by rw [← Real.exp_add]; simp
    have h1 := Real.exp_pos (r / 2)
    have h2 := Real.exp_pos (-(r / 2))
    rw [e, show (1 / 2 : ℝ) * r = r / 2 by ring]
    field_simp
    linear_combination (2 * Real.exp (-(r / 2))) * hm

/-- One tile of the product with its bias. -/
def accTile (xb : Vec Ideal S1024x2048 .bf16) (w : Vec Ideal S2048x1536 .bf16) (b : Vec Ideal S1x1536 .f32) : FVec Ideal S1024x1536 .f32 :=
  addf (matmul (φ₁ := .bf16) (φ₂ := .bf16) dot_S1024x2048_S2048x1536_S1024x1536_1_0_0_1_n_n none xb
      (shapeCast S2048x1536 w shapeCasts_S2048x1536_S2048x1536 : FVec Ideal S2048x1536 .bf16) (constant S1024x1536 .f32 0x00000000#32))
    (broadcastTo S1024x1536 (shapeCast S1x1536 b shapeCasts_S1x1536_S1x1536 : FVec Ideal S1x1536 .f32) broadcasts_S1x1536_S1024x1536)

theorem accTile_at (xb : Vec Ideal S1024x2048 .bf16) (w : Vec Ideal S2048x1536 .bf16) (b : Vec Ideal S1x1536 .f32) (r : Fin 1024) (j : Fin 1536) :
    accTile xb w b (ix2 r j) = (∑ k : Fin 2048, xb (ix2 r k) * w (ix2 k j)) + b (ix2 0 j) := by
  pointwise [accTile]

/-- What is stored of a tile: the product activated, times itself where the columns are the activations'. -/
theorem pay_at (i : grid0.Coords) (xb : Vec Ideal S1024x2048 .bf16) (w : Vec Ideal S2048x1536 .bf16) (b : Vec Ideal S1x1536 .f32) (y : S1024x1536.Idx) :
    k0_pay2 (F := Ideal) i xb w b y = (if (i 1).val = 0 then accTile xb w b y else 1) * Ideal.logistic (accTile xb w b y) := by
  have hs : Scalar.cmpi .slt (BitVec.ofNat 32 (i 1).val) 1#32 = if (i 1).val = 0 then 1#1 else 0#1 := by
    have : ∀ n : Fin 5, Scalar.cmpi .slt (BitVec.ofNat 32 n.val) 1#32 = if n.val = 0 then 1#1 else 0#1 := by decide
    exact this (i 1)
  have e : k0_pay2 (F := Ideal) i xb w b y
      = (Scalar.select (Scalar.cmpi .slt (BitVec.ofNat 32 (i 1).val) 1#32) (accTile xb w b) (broadcast S1024x1536 (Scalar.ofBits (F := Ideal) .f32 0x3F800000#32)) y : EReal)
        * (Ideal.ofBits .f32 0x3F000000#32 * Ideal.tanh (Ideal.ofBits .f32 0x3F000000#32 * accTile xb w b y) + Ideal.ofBits .f32 0x3F000000#32) := rfl
  rw [e, half_tanh, hs]
  split
  · rfl
  · congr 1; exact one_f32

variable (m : (ℓ : Loc nD τ sig) → Buf (Elt Ideal) ℓ) (c : Dev nD)

theorem flat_at (x : FVec Ideal S2x16384x2048 .f32) (h : S2x16384x2048.ShapeCasts S32768x2048) (r : Fin 32768) (k : Fin 2048) :
    shapeCast S32768x2048 x h (ix2 r k) = x (ix3 ⟨r.val / 16384, by omega⟩ ⟨r.val % 16384, by omega⟩ k) :=
  shapeCast_apply x h (ix2 r k) (ix3 ⟨r.val / 16384, by omega⟩ ⟨r.val % 16384, by omega⟩ k) (by
    rewrite [Shape.rowMajor_val_three, Shape.rowMajor_val_two]
    show (r.val / 16384 * 16384 + r.val % 16384) * 2048 + k.val = r.val * 2048 + k.val
    omega)

/-- The rows the kernel reads: those of the two batches, one after the other. -/
theorem rows_at (r : Fin 32768) (k : Fin 2048) : V m c main_v0 (ix2 r k)
    = m ((c : Thread nD τ).loc main_arg0) (ix3 ⟨r.val / 16384, by omega⟩ ⟨r.val % 16384, by omega⟩ k) := by
  have e : V m c main_v0 = shapeCast S32768x2048 (m ((c : Thread nD τ).loc main_arg0)) shapeCasts_S2x16384x2048_S32768x2048 := by
    unfold V; after_results; rfl
  exact (congrFun e (ix2 r k)).trans (flat_at _ _ r k)

/-- Six segments of columns laid side by side, read at a column. -/
theorem cat1_at (a0 a1 a2 : FVec Ideal S2048x512 .f32) (g0 g1 g2 : FVec Ideal S2048x2048 .f32) (k : Fin 2048) (j : Fin 7680)
    (h : Shape.Concatenates [S2048x512, S2048x512, S2048x512, S2048x2048, S2048x2048, S2048x2048] S2048x7680 1) :
    concatenate S2048x7680 1 [⟨S2048x512, a0⟩, ⟨S2048x512, a1⟩, ⟨S2048x512, a2⟩, ⟨S2048x2048, g0⟩, ⟨S2048x2048, g1⟩, ⟨S2048x2048, g2⟩] h (ix2 k j)
      = if _ : j.val < 512 then a0 (ix2 k ⟨j.val, by omega⟩) else if _ : j.val - 512 < 512 then a1 (ix2 k ⟨j.val - 512, by omega⟩)
        else if _ : j.val - 512 - 512 < 512 then a2 (ix2 k ⟨j.val - 512 - 512, by omega⟩) else if _ : j.val - 512 - 512 - 512 < 2048 then g0 (ix2 k ⟨j.val - 512 - 512 - 512, by omega⟩)
        else if _ : j.val - 512 - 512 - 512 - 2048 < 2048 then g1 (ix2 k ⟨j.val - 512 - 512 - 512 - 2048, by omega⟩) else g2 (ix2 k ⟨j.val - 512 - 512 - 512 - 2048 - 2048, by omega⟩) := by
  pointwise []

theorem cat0_at (a0 a1 a2 : FVec Ideal S512 .f32) (g0 g1 g2 : FVec Ideal S2048 .f32) (j : Fin 7680)
    (h : Shape.Concatenates [S512, S512, S512, S2048, S2048, S2048] S7680 0) :
    concatenate S7680 0 [⟨S512, a0⟩, ⟨S512, a1⟩, ⟨S512, a2⟩, ⟨S2048, g0⟩, ⟨S2048, g1⟩, ⟨S2048, g2⟩] h (ix1 j)
      = if _ : j.val < 512 then a0 (ix1 ⟨j.val, by omega⟩) else if _ : j.val - 512 < 512 then a1 (ix1 ⟨j.val - 512, by omega⟩)
        else if _ : j.val - 512 - 512 < 512 then a2 (ix1 ⟨j.val - 512 - 512, by omega⟩) else if _ : j.val - 512 - 512 - 512 < 2048 then g0 (ix1 ⟨j.val - 512 - 512 - 512, by omega⟩)
        else if _ : j.val - 512 - 512 - 512 - 2048 < 2048 then g1 (ix1 ⟨j.val - 512 - 512 - 512 - 2048, by omega⟩) else g2 (ix1 ⟨j.val - 512 - 512 - 512 - 2048 - 2048, by omega⟩) := by
  pointwise []

/-- The six segments of the weights' columns side by side. -/
def cat1 (w : FVec Ideal S2048x11528 .f32) : FVec Ideal S2048x7680 .f32 :=
  concatenate S2048x7680 1
    [⟨S2048x512, extractStridedSlice S2048x512 ![0, 1536] w slices_S2048x11528_S2048x512_0_1536⟩,
      ⟨S2048x512, extractStridedSlice S2048x512 ![0, 2824] w slices_S2048x11528_S2048x512_0_2824⟩,
      ⟨S2048x512, extractStridedSlice S2048x512 ![0, 4872] w slices_S2048x11528_S2048x512_0_4872⟩,
      ⟨S2048x2048, extractStridedSlice S2048x2048 ![0, 5384] w slices_S2048x11528_S2048x2048_0_5384⟩,
      ⟨S2048x2048, extractStridedSlice S2048x2048 ![0, 7432] w slices_S2048x11528_S2048x2048_0_7432⟩,
      ⟨S2048x2048, extractStridedSlice S2048x2048 ![0, 9480] w slices_S2048x11528_S2048x2048_0_9480⟩]
    concatenates_S2048x512_S2048x512_S2048x512_S2048x2048_S2048x2048_S2048x2048_S2048x7680_d1

/-- The six segments of the bias side by side. -/
def cat0 (w : FVec Ideal S11528 .f32) : FVec Ideal S7680 .f32 :=
  concatenate S7680 0
    [⟨S512, extractStridedSlice S512 ![1536] w slices_S11528_S512_1536⟩,
      ⟨S512, extractStridedSlice S512 ![2824] w slices_S11528_S512_2824⟩,
      ⟨S512, extractStridedSlice S512 ![4872] w slices_S11528_S512_4872⟩,
      ⟨S2048, extractStridedSlice S2048 ![5384] w slices_S11528_S2048_5384⟩,
      ⟨S2048, extractStridedSlice S2048 ![7432] w slices_S11528_S2048_7432⟩,
      ⟨S2048, extractStridedSlice S2048 ![9480] w slices_S11528_S2048_9480⟩]
    concatenates_S512_S512_S512_S2048_S2048_S2048_S7680_d0

theorem cat1_pick (w : FVec Ideal S2048x11528 .f32) (k : Fin 2048) (j : Fin 7680) : cat1 w (ix2 k j) = w (ix2 k ⟨pick j.val, pick_lt j⟩) := by
  unfold cat1
  rw [cat1_at]
  pointwise []
  unfold pick
  split_ifs
  all_goals first | omega | exact congrArg w (congrArg (ix2 k) (Fin.ext (by first | omega | (simp only <;> omega))))

theorem cat0_pick (w : FVec Ideal S11528 .f32) (j : Fin 7680) : cat0 w (ix1 j) = w (ix1 ⟨pick j.val, pick_lt j⟩) := by
  unfold cat0
  rw [cat0_at]
  pointwise []
  unfold pick
  split_ifs
  all_goals first | omega | exact congrArg w (congrArg ix1 (Fin.ext (by first | omega | (simp only <;> omega))))

/-- The weights' columns the kernel reads. -/
theorem cols_at (k : Fin 2048) (j : Fin 7680) : V m c main_v8 (ix2 k j) = m ((c : Thread nD τ).loc main_arg1) (ix2 k ⟨pick j.val, pick_lt j⟩) := by
  have e : V m c main_v8 = truncf .bf16 (cat1 (m ((c : Thread nD τ).loc main_arg1))) bitsLt_bf16_f32 := by
    unfold V; after_results; rfl
  exact (congrFun e (ix2 k j)).trans (cat1_pick _ k j)

/-- The bias the kernel reads. -/
theorem bias_at (j : Fin 7680) : V m c main_v16 (ix2 0 j) = m ((c : Thread nD τ).loc main_arg2) (ix1 ⟨pick j.val, pick_lt j⟩) := by
  have e : V m c main_v16 = broadcastInDim S1x7680 ![1] bcast_S7680_S1x7680_1 (cat0 (m ((c : Thread nD τ).loc main_arg2))) := by
    unfold V; after_results; rfl
  refine (congrFun e (ix2 0 j)).trans (Eq.trans ?_ (cat0_pick _ j))
  generalize cat0 (m ((c : Thread nD τ).loc main_arg2)) = w
  pointwise []

theorem N_eq : cfg0.N = 160 := N_0

theorem idx : ∀ t : Fin cfg0.N, win0_0.index t = ![t.val / 5, 0] ∧ win0_1.index t = ![0, t.val % 5] ∧ win0_2.index t = ![0, t.val % 5]
    ∧ win0_3.index t = ![t.val / 5, t.val % 5] ∧ (grid0.coords t 1).val = t.val % 5 :=
  (by decide +kernel : ∀ t : Fin grid0.N, _)

/-- What the kept rows hold: the rows of the point's block. -/
theorem kept (n : ℕ) : ∀ hn : n < cfg0.N, ∀ (r : Fin 1024) (k : Fin 2048), (outsAt0 m c n hn).2 (ix2 r k)
    = V m c main_v0 (ix2 ⟨n / 5 * 1024 + r.val, by have := N_eq; omega⟩ k) := by
  induction n using Nat.strong_induction_on with
  | _ n ih =>
    intro hn r k
    by_cases h0 : n % 5 = 0
    · rw [show outsAt0 m c n hn = _ from outsAt0_A m c ⟨n, hn⟩ h0]
      dsimp only
      frame_out
      pointwise [k0_pay1]
      blk_ext [iblk, idx ⟨n, hn⟩]
    · rw [show outsAt0 m c n hn = _ from outsAt0_B m c ⟨n, hn⟩ h0]
      dsimp only
      unfold sout0_B_0
      rw [ih (n - 1) (by omega) (by omega) r k]
      have hq : (n - 1) / 5 = n / 5 := by omega
      simp only [hq]

/-- The block stored at a point, from the rows kept, is the reference's. -/
theorem point (t : Fin cfg0.N) (xb : Vec Ideal S1024x2048 .bf16)
    (hx : ∀ (r : Fin 1024) (k : Fin 2048), xb (ix2 r k) = V m c main_v0 (ix2 ⟨t.val / 5 * 1024 + r.val, by have := N_eq; omega⟩ k))
    (r : Fin 1024) (j : Fin 1536) (R : Fin 32768) (J : Fin 7680) (hR : R.val = t.val / 5 * 1024 + r.val) (hJ : J.val = t.val % 5 * 1536 + j.val) :
    k0_pay2 (F := Ideal) (grid0.coords t) xb (iblk m c 1 t) (iblk m c 2 t) (ix2 r j)
      = Cert.Reference3Ideal.Read.val_main_v43 (F := Ideal) (m ((c : Thread nD τ).loc main_arg0)) (m ((c : Thread nD τ).loc main_arg1)) (m ((c : Thread nD τ).loc main_arg2)) (ix2 R J) := by
  have hw : ∀ k : Fin 2048, (iblk m c 1 t : Vec Ideal S2048x1536 .bf16) (ix2 k j) = V m c main_v8 (ix2 k J) := by
    intro k; pointwise []; blk_ext [iblk, idx t]
  have hb : (iblk m c 2 t : Vec Ideal S1x1536 .f32) (ix2 0 j) = V m c main_v16 (ix2 0 J) := by
    pointwise []; blk_ext [iblk, idx t]
  have ha : accTile xb (iblk m c 1 t) (iblk m c 2 t) (ix2 r j)
      = hid (m ((c : Thread nD τ).loc main_arg0)) (m ((c : Thread nD τ).loc main_arg1)) (m ((c : Thread nD τ).loc main_arg2)) R ⟨pick J.val, pick_lt J⟩ := by
    rw [accTile_at, hb, bias_at]
    unfold hid
    refine congrArg (· + _) (Fin.sum_fin_congr fun k => ?_)
    have e : (⟨t.val / 5 * 1024 + r.val, by have := N_eq; omega⟩ : Fin 32768) = R := Fin.ext hR.symm
    rw [hw, cols_at, hx, e, rows_at]
  rw [pay_at, ha, ref_at]
  have hi := (idx t).2.2.2.2
  refine congrArg (· * _) ?_
  by_cases h : J.val < 1536
  · rw [if_pos h, if_pos (by omega)]
  · rw [if_neg h, if_neg (by omega)]

/-- The array the kernel leaves is the reference's result. -/
theorem final : (dats m 0 c).arrAt 3 cfg0.N
    = Cert.Reference3Ideal.Read.val_main_v43 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have hN := N_eq
  have ht : t.val < 160 := lt_of_lt_of_eq t.isLt N_eq
  have y0 : (y 0).val < 1024 := (y 0).isLt
  have y1 : (y 1).val < 1536 := (y 1).isLt
  have hkeep := kept m c t.val t.isLt
  have key : ∀ xb : Vec Ideal S1024x2048 .bf16, (∀ (r : Fin 1024) (k : Fin 2048), xb (ix2 r k) = V m c main_v0 (ix2 ⟨t.val / 5 * 1024 + r.val, by omega⟩ k)) →
      k0_pay2 (F := Ideal) (grid0.coords t) xb (iblk m c 1 t) (iblk m c 2 t) y
        = Cert.Reference3Ideal.Read.val_main_v43 (F := Ideal) (m ((c : Thread nD τ).loc main_arg0)) (m ((c : Thread nD τ).loc main_arg1)) (m ((c : Thread nD τ).loc main_arg2))
          (ix2 ⟨t.val / 5 * 1024 + (y 0).val, by omega⟩ ⟨t.val % 5 * 1536 + (y 1).val, by omega⟩) := by
    intro xb hx
    have ey : y = ix2 ⟨(y 0).val, y0⟩ ⟨(y 1).val, y1⟩ := funext fun a => Fin.ext (by
      match a with
      | ⟨0, _⟩ => rfl
      | ⟨1, _⟩ => rfl)
    exact (congrArg (k0_pay2 (F := Ideal) (grid0.coords t) xb (iblk m c 1 t) (iblk m c 2 t)) ey).trans (point m c t xb hx _ _ _ _ rfl rfl)
  have out : ∀ z : Cert.Reference3Ideal.S32768x7680.Idx, (z 0).val = t.val / 5 * 1024 + (y 0).val → (z 1).val = t.val % 5 * 1536 + (y 1).val →
      z = ix2 ⟨t.val / 5 * 1024 + (y 0).val, by omega⟩ ⟨t.val % 5 * 1536 + (y 1).val, by omega⟩ := fun z h h' => funext fun a => Fin.ext (by
    match a with
    | ⟨0, _⟩ => exact h
    | ⟨1, _⟩ => exact h')
  by_cases h0 : t.val % 5 = 0
  · rw [outsAt0_A m c t h0]
    dsimp only
    frame_out
    refine (key _ fun r k => ?_).trans (congrArg _ (out _ ?_ ?_).symm)
    · pointwise [k0_pay1]
      blk_ext [iblk, idx t]
    all_goals (blk_simp [idx t] <;> try omega)
  · rw [outsAt0_B m c t h0]
    dsimp only
    frame_out
    refine (key _ fun r k => ?_).trans (congrArg _ (out _ ?_ ?_).symm)
    · rw [← hkeep r k, outsAt0_B m c t h0]
      dsimp only
      unfold sout0_B_0
      exact congrFun ((Memref.isWhole_whole cc0_scratch0).read_unread (outsAt0 m c (t.val - 1) (by omega)).2) (ix2 r k)
    all_goals (blk_simp [idx t] <;> try omega)

end Cert.Zg

end
-- ==== Proof.Qkv.Runs.lean ====
/- The projection to queries, keys and values: when its body takes the two ways, where its windows are idle, and its buffers. -/
module

public import proofs.«01_k».proof.Proof.Gen.Kernel4Ideal.Frame
public import proofs.«01_k».proof.Proof.Gen.Kernel4Ideal.Skeleton
public import Idealize.ShloMosaic.Lib.Pipeline.TableIdle

@[expose] public section

set_option maxRecDepth 16384

noncomputable section

namespace Cert.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Whether the body takes up the rows and computes the forget columns at this point. -/
abbrev cond0_0 (i : grid0.Coords) : Prop := k0_cond1 i = 1#1
/-- It holds at every third point. -/
theorem hcond0_0 : ∀ t : Fin cfg0.N, cond0_0 (grid0.coords t) ↔ t.val % 3 = 0 :=
  (fun t => by
    have ht : t.val < 96 := Nat.lt_of_lt_of_eq t.isLt N_0
    have e0 : (grid0.coords t 0).val = t.val / 3 % 32 := Pipeline.Grid.coords_val t 0 (by decide) rfl
    have e1 : (grid0.coords t 1).val = t.val / 1 % 3 := Pipeline.Grid.coords_val t 1 (by decide) rfl
    simp only [cond0_0, k0_cond1, e0, e1]
    word_cmp
   : ∀ t : Fin grid0.N, cond0_0 (grid0.coords t) ↔ t.val % 3 = 0)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
/-- Whether the second output buffer holds nothing stored since it was last written back, position by position. -/
def freshTab0_10 : ℕ → Bool
  | 0 => true
  | n + 1 => (0x924924924924924924924924 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- Output 10 is live where the rows are taken up, and idle elsewhere. -/
theorem liveAt0_10_A : ∀ t : Fin cfg0.N, cond0_0 (grid0.coords t) → cfg0.idle 10 (grid0.coords t) = false := by decide +kernel
theorem idleAt0_10_B : ∀ t : Fin cfg0.N, ¬cond0_0 (grid0.coords t) → cfg0.idle 10 (grid0.coords t) = true := by decide +kernel
/-- Where it is idle its buffer holds something stored since it was last written back. -/
theorem notFresh0_10_B : ∀ t : Fin cfg0.N, ¬cond0_0 (grid0.coords t) → cfg0.fresh 10 t.val = false := by
  intro t; rw [fresh0_10_eq t]; revert t; decide +kernel

/-! ## The buffers -/

abbrev VO0_9 : View sig .tc .vmem S1x20x1024x128 .bf16 := (Memref.whole cc0_stg9_0 : Memref sig .tc .vmem S1x20x1024x128 .bf16).view
abbrev VO0_10 : View sig .tc .vmem S1024x128 .f32 := (Memref.whole cc0_stg10_0 : Memref sig .tc .vmem S1024x128 .f32).view
/-- Each window's current buffer at a point, and that it is whole. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1280 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2560 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2560 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x20x1024x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .f32 := win0_10.stage (cfg0.slots t 10)
abbrev hs0_10 (t : Fin cfg0.N) : (ms0_10 t).IsWhole := hstage0_10 ((cfg0.slots t 10).cast nbuf0_10)
/-- The rows kept between points. -/
abbrev scM0_0 : Memref sig .tc .vmem S1024x2048 .bf16 := Memref.whole cc0_scratch0
abbrev VS0_0 : View sig .tc .vmem S1024x2048 .bf16 := scM0_0.view

/-- What the launch hands the region, with the kept rows as a buffer owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Qkv

end
-- ==== Proof.Qkv.RunA.lean ====
/- The body run where it takes up a block of rows. -/
module

public import proofs.«01_k».proof.Proof.Qkv.Runs

@[expose] public section

set_option maxRecDepth 16384

noncomputable section

namespace Cert.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores where it takes up the rows: the pieces of both outputs and of the kept rows, with the proof that it runs. -/
noncomputable def runA (c : Dev nD) (i : grid0.Coords) (arg2 : Memref sig .tc .vmem S1024x2048 .f32) (harg2 : arg2.IsWhole) (arg3 : Memref sig .tc .vmem S2048x1280 .bf16) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x2560 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S2048x128 .bf16) (harg9 : arg9.IsWhole) (arg10 : Memref sig .tc .vmem S1x128 .f32) (harg10 : arg10.IsWhole) (arg11 : Memref sig .tc .vmem S1x20x1024x128 .bf16) (harg11 : arg11.IsWhole) (arg12 : Memref sig .tc .vmem S1024x128 .f32) (harg12 : arg12.IsWhole) (arg13 : Memref sig .tc .vmem S1024x2048 .bf16) (harg13 : arg13.IsWhole) (hc0 : cond0_0 i)
    (x0 : Vec F S1024x2048 .f32) (x1 : Vec F S2048x1280 .bf16) (x2 : Vec F S1x1280 .f32) (x3 : Vec F S1x1280 .f32) (x4 : Vec F S1x2560 .f32) (x5 : Vec F S1x2560 .f32) (x6 : Vec F S1x2560 .f32) (x7 : Vec F S2048x128 .bf16) (x8 : Vec F S1x128 .f32) :
    Σ' (L9 : List (View.Piece (Elt F) S1x20x1024x128 .bf16)), Σ' (L10 : List (View.Piece (Elt F) S1024x128 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_qkv_proj_eq_skeleton]; unfold cc0_qkv_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact HS0

end Cert.Qkv

end
-- ==== Proof.Qkv.RunB.lean ====
/- The body run where the rows are kept from the point before. -/
module

public import proofs.«01_k».proof.Proof.Qkv.RunA

@[expose] public section

set_option maxRecDepth 16384

noncomputable section

namespace Cert.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores elsewhere: the pieces of the first output, over the kept rows; the second output is not touched. -/
noncomputable def runB (c : Dev nD) (i : grid0.Coords) (arg2 : Memref sig .tc .vmem S1024x2048 .f32) (harg2 : arg2.IsWhole) (arg3 : Memref sig .tc .vmem S2048x1280 .bf16) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x2560 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S2048x128 .bf16) (harg9 : arg9.IsWhole) (arg10 : Memref sig .tc .vmem S1x128 .f32) (harg10 : arg10.IsWhole) (arg11 : Memref sig .tc .vmem S1x20x1024x128 .bf16) (harg11 : arg11.IsWhole) (arg12 : Memref sig .tc .vmem S1024x128 .f32) (harg12 : arg12.IsWhole) (arg13 : Memref sig .tc .vmem S1024x2048 .bf16) (harg13 : arg13.IsWhole) (hc0 : ¬cond0_0 i)
    (x0 : Vec F S1024x2048 .f32) (x1 : Vec F S2048x1280 .bf16) (x2 : Vec F S1x1280 .f32) (x3 : Vec F S1x1280 .f32) (x4 : Vec F S1x2560 .f32) (x5 : Vec F S1x2560 .f32) (x6 : Vec F S1x2560 .f32) (x7 : Vec F S2048x128 .bf16) (x8 : Vec F S1x128 .f32) (xs0 : Vec F S1024x2048 .bf16) :
    { L9 : List (View.Piece (Elt F) S1x20x1024x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg13 fullShare xs0) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_qkv_proj_eq_skeleton]; unfold cc0_qkv_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs0
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; isplitr; · ipureintro; exact harg13.read_unread _
    iexact HS0

end Cert.Qkv

end
-- ==== Proof.Qkv.Body.lean ====
/- The frame of the projection to queries, keys and values: what its buffers hold after every point, and the launch. -/
module

public import proofs.«01_k».proof.Proof.Qkv.RunB
public import Idealize.ShloMosaic.Lib.Claim

@[expose] public section

set_option maxRecDepth 16384

noncomputable section

namespace Cert.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces stored cover the first output, where the rows are taken up. -/
theorem coverA_9 (c : Dev nD) (i : grid0.Coords) (arg2 : Memref sig .tc .vmem S1024x2048 .f32) (harg2 : arg2.IsWhole) (arg3 : Memref sig .tc .vmem S2048x1280 .bf16) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x2560 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S2048x128 .bf16) (harg9 : arg9.IsWhole) (arg10 : Memref sig .tc .vmem S1x128 .f32) (harg10 : arg10.IsWhole) (arg11 : Memref sig .tc .vmem S1x20x1024x128 .bf16) (harg11 : arg11.IsWhole) (arg12 : Memref sig .tc .vmem S1024x128 .f32) (harg12 : arg12.IsWhole) (arg13 : Memref sig .tc .vmem S1024x2048 .bf16) (harg13 : arg13.IsWhole) (hc0 : cond0_0 i)
    (x0 : Vec F S1024x2048 .f32) (x1 : Vec F S2048x1280 .bf16) (x2 : Vec F S1x1280 .f32) (x3 : Vec F S1x1280 .f32) (x4 : Vec F S1x2560 .f32) (x5 : Vec F S1x2560 .f32) (x6 : Vec F S1x2560 .f32) (x7 : Vec F S2048x128 .bf16) (x8 : Vec F S1x128 .f32) (y : S1x20x1024x128.Idx) :
    ∃ pc ∈ (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1 S1x1x1024x128.size (by sl_kernel_rfl) y

/-- What is left in the first output, where the rows are taken up. -/
def outA_9 (c : Dev nD) (i : grid0.Coords) (arg2 : Memref sig .tc .vmem S1024x2048 .f32) (harg2 : arg2.IsWhole) (arg3 : Memref sig .tc .vmem S2048x1280 .bf16) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x2560 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S2048x128 .bf16) (harg9 : arg9.IsWhole) (arg10 : Memref sig .tc .vmem S1x128 .f32) (harg10 : arg10.IsWhole) (arg11 : Memref sig .tc .vmem S1x20x1024x128 .bf16) (harg11 : arg11.IsWhole) (arg12 : Memref sig .tc .vmem S1024x128 .f32) (harg12 : arg12.IsWhole) (arg13 : Memref sig .tc .vmem S1024x2048 .bf16) (harg13 : arg13.IsWhole) (hc0 : cond0_0 i)
    (x0 : Vec F S1024x2048 .f32) (x1 : Vec F S2048x1280 .bf16) (x2 : Vec F S1x1280 .f32) (x3 : Vec F S1x1280 .f32) (x4 : Vec F S1x2560 .f32) (x5 : Vec F S1x2560 .f32) (x6 : Vec F S1x2560 .f32) (x7 : Vec F S2048x128 .bf16) (x8 : Vec F S1x128 .f32) : Vec F S1x20x1024x128 .bf16 :=
  VO0_9.read (Elt F) (VO0_9.writes (Elt F) VO0_9.junk (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1)

/-- The pieces stored cover the second output. -/
theorem coverA_10 (c : Dev nD) (i : grid0.Coords) (arg2 : Memref sig .tc .vmem S1024x2048 .f32) (harg2 : arg2.IsWhole) (arg3 : Memref sig .tc .vmem S2048x1280 .bf16) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x2560 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S2048x128 .bf16) (harg9 : arg9.IsWhole) (arg10 : Memref sig .tc .vmem S1x128 .f32) (harg10 : arg10.IsWhole) (arg11 : Memref sig .tc .vmem S1x20x1024x128 .bf16) (harg11 : arg11.IsWhole) (arg12 : Memref sig .tc .vmem S1024x128 .f32) (harg12 : arg12.IsWhole) (arg13 : Memref sig .tc .vmem S1024x2048 .bf16) (harg13 : arg13.IsWhole) (hc0 : cond0_0 i)
    (x0 : Vec F S1024x2048 .f32) (x1 : Vec F S2048x1280 .bf16) (x2 : Vec F S1x1280 .f32) (x3 : Vec F S1x1280 .f32) (x4 : Vec F S1x2560 .f32) (x5 : Vec F S1x2560 .f32) (x6 : Vec F S1x2560 .f32) (x7 : Vec F S2048x128 .bf16) (x8 : Vec F S1x128 .f32) (y : S1024x128.Idx) :
    ∃ pc ∈ (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1 S1024x128.size (by sl_kernel_rfl) y

/-- What is left in the second output. -/
def outA_10 (c : Dev nD) (i : grid0.Coords) (arg2 : Memref sig .tc .vmem S1024x2048 .f32) (harg2 : arg2.IsWhole) (arg3 : Memref sig .tc .vmem S2048x1280 .bf16) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x2560 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S2048x128 .bf16) (harg9 : arg9.IsWhole) (arg10 : Memref sig .tc .vmem S1x128 .f32) (harg10 : arg10.IsWhole) (arg11 : Memref sig .tc .vmem S1x20x1024x128 .bf16) (harg11 : arg11.IsWhole) (arg12 : Memref sig .tc .vmem S1024x128 .f32) (harg12 : arg12.IsWhole) (arg13 : Memref sig .tc .vmem S1024x2048 .bf16) (harg13 : arg13.IsWhole) (hc0 : cond0_0 i)
    (x0 : Vec F S1024x2048 .f32) (x1 : Vec F S2048x1280 .bf16) (x2 : Vec F S1x1280 .f32) (x3 : Vec F S1x1280 .f32) (x4 : Vec F S1x2560 .f32) (x5 : Vec F S1x2560 .f32) (x6 : Vec F S1x2560 .f32) (x7 : Vec F S2048x128 .bf16) (x8 : Vec F S1x128 .f32) : Vec F S1024x128 .f32 :=
  VO0_10.read (Elt F) (VO0_10.writes (Elt F) VO0_10.junk (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1)

/-- The pieces stored cover the kept rows. -/
theorem coverA_s (c : Dev nD) (i : grid0.Coords) (arg2 : Memref sig .tc .vmem S1024x2048 .f32) (harg2 : arg2.IsWhole) (arg3 : Memref sig .tc .vmem S2048x1280 .bf16) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x2560 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S2048x128 .bf16) (harg9 : arg9.IsWhole) (arg10 : Memref sig .tc .vmem S1x128 .f32) (harg10 : arg10.IsWhole) (arg11 : Memref sig .tc .vmem S1x20x1024x128 .bf16) (harg11 : arg11.IsWhole) (arg12 : Memref sig .tc .vmem S1024x128 .f32) (harg12 : arg12.IsWhole) (arg13 : Memref sig .tc .vmem S1024x2048 .bf16) (harg13 : arg13.IsWhole) (hc0 : cond0_0 i)
    (x0 : Vec F S1024x2048 .f32) (x1 : Vec F S2048x1280 .bf16) (x2 : Vec F S1x1280 .f32) (x3 : Vec F S1x1280 .f32) (x4 : Vec F S1x2560 .f32) (x5 : Vec F S1x2560 .f32) (x6 : Vec F S1x2560 .f32) (x7 : Vec F S2048x128 .bf16) (x8 : Vec F S1x128 .f32) (y : S1024x2048.Idx) :
    ∃ pc ∈ (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1 S1024x2048.size (by sl_kernel_rfl) y

/-- What is left in the kept rows. -/
def outA_s (c : Dev nD) (i : grid0.Coords) (arg2 : Memref sig .tc .vmem S1024x2048 .f32) (harg2 : arg2.IsWhole) (arg3 : Memref sig .tc .vmem S2048x1280 .bf16) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x2560 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S2048x128 .bf16) (harg9 : arg9.IsWhole) (arg10 : Memref sig .tc .vmem S1x128 .f32) (harg10 : arg10.IsWhole) (arg11 : Memref sig .tc .vmem S1x20x1024x128 .bf16) (harg11 : arg11.IsWhole) (arg12 : Memref sig .tc .vmem S1024x128 .f32) (harg12 : arg12.IsWhole) (arg13 : Memref sig .tc .vmem S1024x2048 .bf16) (harg13 : arg13.IsWhole) (hc0 : cond0_0 i)
    (x0 : Vec F S1024x2048 .f32) (x1 : Vec F S2048x1280 .bf16) (x2 : Vec F S1x1280 .f32) (x3 : Vec F S1x1280 .f32) (x4 : Vec F S1x2560 .f32) (x5 : Vec F S1x2560 .f32) (x6 : Vec F S1x2560 .f32) (x7 : Vec F S2048x128 .bf16) (x8 : Vec F S1x128 .f32) : Vec F S1024x2048 .bf16 :=
  VS0_0.read (Elt F) (VS0_0.writes (Elt F) VS0_0.junk (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1)

/-- The pieces stored cover the first output, where the rows are kept. -/
theorem coverB_9 (c : Dev nD) (i : grid0.Coords) (arg2 : Memref sig .tc .vmem S1024x2048 .f32) (harg2 : arg2.IsWhole) (arg3 : Memref sig .tc .vmem S2048x1280 .bf16) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x2560 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S2048x128 .bf16) (harg9 : arg9.IsWhole) (arg10 : Memref sig .tc .vmem S1x128 .f32) (harg10 : arg10.IsWhole) (arg11 : Memref sig .tc .vmem S1x20x1024x128 .bf16) (harg11 : arg11.IsWhole) (arg12 : Memref sig .tc .vmem S1024x128 .f32) (harg12 : arg12.IsWhole) (arg13 : Memref sig .tc .vmem S1024x2048 .bf16) (harg13 : arg13.IsWhole) (hc0 : ¬cond0_0 i)
    (x0 : Vec F S1024x2048 .f32) (x1 : Vec F S2048x1280 .bf16) (x2 : Vec F S1x1280 .f32) (x3 : Vec F S1x1280 .f32) (x4 : Vec F S1x2560 .f32) (x5 : Vec F S1x2560 .f32) (x6 : Vec F S1x2560 .f32) (x7 : Vec F S2048x128 .bf16) (x8 : Vec F S1x128 .f32) (xs0 : Vec F S1024x2048 .bf16) (y : S1x20x1024x128.Idx) :
    ∃ pc ∈ (runB c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).1 S1x1x1024x128.size (by sl_kernel_rfl) y

/-- What is left in the first output, where the rows are kept. -/
def outB_9 (c : Dev nD) (i : grid0.Coords) (arg2 : Memref sig .tc .vmem S1024x2048 .f32) (harg2 : arg2.IsWhole) (arg3 : Memref sig .tc .vmem S2048x1280 .bf16) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x2560 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S2048x128 .bf16) (harg9 : arg9.IsWhole) (arg10 : Memref sig .tc .vmem S1x128 .f32) (harg10 : arg10.IsWhole) (arg11 : Memref sig .tc .vmem S1x20x1024x128 .bf16) (harg11 : arg11.IsWhole) (arg12 : Memref sig .tc .vmem S1024x128 .f32) (harg12 : arg12.IsWhole) (arg13 : Memref sig .tc .vmem S1024x2048 .bf16) (harg13 : arg13.IsWhole) (hc0 : ¬cond0_0 i)
    (x0 : Vec F S1024x2048 .f32) (x1 : Vec F S2048x1280 .bf16) (x2 : Vec F S1x1280 .f32) (x3 : Vec F S1x1280 .f32) (x4 : Vec F S1x2560 .f32) (x5 : Vec F S1x2560 .f32) (x6 : Vec F S1x2560 .f32) (x7 : Vec F S2048x128 .bf16) (x8 : Vec F S1x128 .f32) (xs0 : Vec F S1024x2048 .bf16) : Vec F S1x20x1024x128 .bf16 :=
  VO0_9.read (Elt F) (VO0_9.writes (Elt F) VO0_9.junk (runB c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).1)

/-! ## What the buffers hold after each point -/

/-- The kept rows and the second output, as left by a point that takes up rows. -/
def rowsAt (c : Dev nD) (t : Fin cfg0.N) (h0 : t.val % 3 = 0) : Vec F S1024x2048 .bf16 :=
  outA_s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)
def forgetAt (c : Dev nD) (t : Fin cfg0.N) (h0 : t.val % 3 = 0) : Vec F S1024x128 .f32 :=
  outA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)

/-- The point at which the rows in use at `t` were taken up. -/
def start (t : Fin cfg0.N) : Fin cfg0.N := ⟨t.val - t.val % 3, Nat.lt_of_le_of_lt (Nat.sub_le _ _) t.isLt⟩
theorem start_mod (t : Fin cfg0.N) : (start t).val % 3 = 0 := by show (t.val - t.val % 3) % 3 = 0; omega
theorem start_self (t : Fin cfg0.N) (h0 : t.val % 3 = 0) : start t = t := Fin.ext (by show t.val - t.val % 3 = t.val; omega)
/-- The point before. -/
def prev (t : Fin cfg0.N) : Fin cfg0.N := ⟨t.val - 1, Nat.lt_of_le_of_lt (Nat.sub_le _ _) t.isLt⟩
theorem start_prev (t : Fin cfg0.N) (h0 : ¬t.val % 3 = 0) : start t = start (prev t) :=
  Fin.ext (by show t.val - t.val % 3 = t.val - 1 - (t.val - 1) % 3; omega)

def keptAt (c : Dev nD) (t : Fin cfg0.N) : Vec F S1024x2048 .bf16 := rowsAt m c (start t) (start_mod t)
def secondAt (c : Dev nD) (t : Fin cfg0.N) : Vec F S1024x128 .f32 := forgetAt m c (start t) (start_mod t)

theorem rowsAt_congr (c : Dev nD) (s t : Fin cfg0.N) (e : s = t) (hs : s.val % 3 = 0) (ht : t.val % 3 = 0) : rowsAt m c s hs = rowsAt m c t ht := by
  subst e; rfl
theorem forgetAt_congr (c : Dev nD) (s t : Fin cfg0.N) (e : s = t) (hs : s.val % 3 = 0) (ht : t.val % 3 = 0) : forgetAt m c s hs = forgetAt m c t ht := by
  subst e; rfl
theorem keptAt_A (c : Dev nD) (t : Fin cfg0.N) (h0 : t.val % 3 = 0) : keptAt m c t = rowsAt m c t h0 := rowsAt_congr m c _ _ (start_self t h0) _ _
theorem secondAt_A (c : Dev nD) (t : Fin cfg0.N) (h0 : t.val % 3 = 0) : secondAt m c t = forgetAt m c t h0 := forgetAt_congr m c _ _ (start_self t h0) _ _
theorem keptAt_B (c : Dev nD) (t : Fin cfg0.N) (h0 : ¬t.val % 3 = 0) : keptAt m c t = keptAt m c (prev t) := rowsAt_congr m c _ _ (start_prev t h0) _ _
theorem secondAt_B (c : Dev nD) (t : Fin cfg0.N) (h0 : ¬t.val % 3 = 0) : secondAt m c t = secondAt m c (prev t) := forgetAt_congr m c _ _ (start_prev t h0) _ _

/-- The first output after a point. -/
def firstAt (c : Dev nD) (t : Fin cfg0.N) : Vec F S1x20x1024x128 .bf16 :=
  if h0 : t.val % 3 = 0 then
    outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)
  else
    outB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (keptAt m c t)

/-- What holds between points: the rows last taken up are kept. -/
def PhiS (c : Dev nD) : (n : ℕ) → n ≤ cfg0.N → sProp 𝕄
  | 0, _ => Pipeline.ΦA spec0 c
  | n + 1, hn => iprop(iprop(owns (c : Thread nD τ) scM0_0 fullShare (keptAt m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (keptAt m c ⟨n, hn⟩)) ∗ (∃ r, prngReg c r)) := rfl
theorem PhiS_pos (c : Dev nD) (n : ℕ) (h : n ≤ cfg0.N) (hz : n ≠ 0) :
    PhiS m c n h = iprop(iprop(owns (c : Thread nD τ) scM0_0 fullShare (keptAt m c ⟨n - 1, by omega⟩)) ∗ (∃ r, prngReg c r)) := by
  cases n with
  | zero => exact absurd rfl hz
  | succ n => rfl

/-! ## The proof data -/

/-- The arrays as the region finds them, and what every buffer holds after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => firstAt m c t
    | ⟨10, _⟩ => secondAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = firstAt m c t := by dsimp only [dats]
theorem after0_10 (c : Dev nD) (t : Fin cfg0.N) : (dats m 0 c).after 10 t = secondAt m c t := by dsimp only [dats]

/-- Each input buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- The second output is carried through the points that leave it idle. -/
theorem carry (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t _ hi _
  rw [after0_10, after0_10]
  by_cases h0 : t.val % 3 = 0
  · rw [liveAt0_10_A t ((hcond0_0 t).mpr h0)] at hi
    exact absurd hi Bool.false_ne_true
  · exact secondAt_B m c t h0
theorem before0_10_B (c : Dev nD) (t : Fin cfg0.N) (h0 : ¬t.val % 3 = 0) (d) : (dats m 0 c).before 10 t d = secondAt m c t := by
  rw [Dat.before_out_traj _ 10 rfl (fun _ _ => rfl) (carry m c) t.val t rfl d,
    if_neg (by rw [notFresh0_10_B t (fun h => h0 ((hcond0_0 t).mp h))]; exact Bool.false_ne_true), secondAt_B m c t h0]
  dsimp only [dats]; rfl

/-! ## The body at a point -/

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 9600000 in
/-- The body at any point runs and leaves what the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  by_cases h0 : t.val % 3 = 0
  · rw [show (dats m 0 c).leavesExact 10 t = owns (c : Thread nD τ) (ms0_10 t) fullShare ((dats m 0 c).after 10 t) from by
      unfold Dat.leavesExact; rw [liveAt0_10_A t ((hcond0_0 t).mpr h0)], after0_10]
    by_cases hz : t.val = 0
    · rw [PhiS_castSucc m c t, PhiS_zero m c _ _ hz, PhiA0_eq]
      rw [keptAt_A m c t h0, secondAt_A m c t h0]
      unfold firstAt rowsAt forgetAt; rw [dif_pos h0]
      unfold outA_9 outA_10 outA_s
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      iintro ⟨H0, H1, H2, H3, H4, H5, H6, H7, H8, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (coverA_s c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverA_9 c _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (coverA_10 c _ _ _ _ _ _ _ _ _ _ _ _ _ _ _ _ _ _ _ _ _ _ _ _ _ _ _ _ _ _ _ _ _ _ _)
    · rw [PhiS_castSucc m c t, PhiS_pos m c _ _ hz]
      rw [keptAt_A m c t h0, secondAt_A m c t h0]
      unfold firstAt rowsAt forgetAt; rw [dif_pos h0]
      unfold outA_9 outA_10 outA_s
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexists _; iexact HS0
      iintro ⟨H0, H1, H2, H3, H4, H5, H6, H7, H8, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (coverA_s c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverA_9 c _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (coverA_10 c _ _ _ _ _ _ _ _ _ _ _ _ _ _ _ _ _ _ _ _ _ _ _ _ _ _ _ _ _ _ _ _ _ _ _)
  · have hz : t.val ≠ 0 := by intro h; rw [h] at h0; exact h0 rfl
    rw [PhiS_castSucc m c t, PhiS_pos m c _ _ hz]
    rw [show keptAt m c ⟨t.val - 1, by omega⟩ = keptAt m c t from (keptAt_B m c t h0).symm]
    unfold firstAt; rw [dif_neg h0]
    unfold outB_9
    by_cases h2 : t.val % 3 = 2
    · rw [show (dats m 0 c).leavesExact 10 t = owns (c : Thread nD τ) (ms0_10 t) fullShare ((dats m 0 c).after 10 t) from by
        unfold Dat.leavesExact; rw [idleAt0_10_B t (fun h => h0 ((hcond0_0 t).mp h)), (flush0_10 t).mpr h2], after0_10]
      simp only [before0_10_B m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runB c (grid0.coords t) _ _ _ _ _ _ _ _ _ _ _ _ _ _ _ _ _ _ _ _ (ms0_10 t) (hs0_10 t) _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iintro ⟨H0, H1, H2, H3, H4, H5, H6, H7, H8, ⟨%e9, H9⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverB_9 c _ _ _ _ _ _ _ _ _ _ _ _ _ _ _ _ _ _ _ _ _ _ _ _ _ _ _ _ _ _ _ _ _ _ _ _)
      iexact H10
    · rw [show (dats m 0 c).leavesExact 10 t = iprop(∃ d, owns (c : Thread nD τ) (ms0_10 t) fullShare ((dats m 0 c).before 10 t d)) from by
        unfold Dat.leavesExact; rw [idleAt0_10_B t (fun h => h0 ((hcond0_0 t).mp h)), Bool.eq_false_iff.mpr (fun h => h2 ((flush0_10 t).mp h))]]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runB c (grid0.coords t) _ _ _ _ _ _ _ _ _ _ _ _ _ _ _ _ _ _ _ _ (ms0_10 t) (hs0_10 t) _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iintro ⟨H0, H1, H2, H3, H4, H5, H6, H7, H8, ⟨%e9, H9⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverB_9 c _ _ _ _ _ _ _ _ _ _ _ _ _ _ _ _ _ _ _ _ _ _ _ _ _ _ _ _ _ _ _ _ _ _ _ _)
      iexists _; iexact H10

theorem defs₀_row (t : Fin cfg0.N) :
    defs₀ (F := F) .tc cfg0.body (cfg0.bodyArgs t (cfg0.slots t)) = bodyAt0 t := by
  unfold defs₀; rw [Defs.onTc_tc]

/-- The obligation of every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point what the launch handed is given back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 96 := N_0; omega)

/-! ## The run and the frame -/

set_option backward.isDefEq.respectTransparency.types false in
set_option maxHeartbeats 800000 in
/-- The launch, with every counter at zero at the end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- Every run ends with every array at what the proof data says, carried through the lines after the region. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- Every run ends, leaves the arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Qkv

end
-- ==== Proof.Qkv.Bits.lean ====
/- The frame of the projection to queries, keys and values as launched: its program is the ideal one's. -/
module

public import proofs.«01_k».proof.Defs
public import proofs.«01_k».proof.Proof.Gen.Kernel4
public import proofs.«01_k».proof.Proof.Qkv.Body

@[expose] public section

namespace Cert.Qkv

open Idealize.ShloMosaic Idealize.SL.Sem

/-- The two programs' kernels are one. -/
theorem kernels_eq {F : FTy → Type} [FloatOps F] : (Cert.Kernel4.defs₀ (F := F)) = Cert.Kernel4Ideal.defs₀ := by
  unfold Cert.Kernel4.defs₀ Cert.Kernel4Ideal.defs₀
  congr 1
  funext l a
  match l, a with
  | 0, (t, s) => rfl

theorem defs_eq {F : FTy → Type} [FloatOps F] : (Cert.Kernel4.defs (F := F)) = Cert.Kernel4Ideal.defs :=
  congrArg (Pipeline.defs Cert.Kernel4Ideal.pcfgs) kernels_eq

set_option maxRecDepth 65536 in
set_option maxHeartbeats 6400000 in
/-- The launched program ends with its arguments unchanged and its semaphores zero. -/
theorem frame_bits : Cert.quiescent_Kernel4 (hKernel4 := Cert.Kernel4.Gen.facts) := fun m ρ _ => by
  rw [show (Cert.Kernel4.defs (F := Bits)) = Cert.Kernel4Ideal.defs from defs_eq]
  exact Cert.Qkv.frame (F := Bits) m ρ

end Cert.Qkv
-- ==== Proof.Qkv.Ref.lean ====
/- What the reference of the projection to queries, keys and values computes at one entry. -/
module

public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

namespace Cert.Qkv

open Idealize.ShloMosaic Idealize.SL.Sem
open Cert.Reference4Ideal Cert.Reference4Ideal.Read

/-- The column of the projection that lane `n % 64` of head `n / 64` shows. -/
def pick (n : ℕ) : ℕ := if n < 1536 then n else if n < 2304 then n + 520 else n + 1032

/-- The scale of a head: of the queries of the attentions over all keys and over blocks. -/
def scale (h : ℕ) : EReal := if h < 8 ∨ 36 ≤ h ∧ h < 44 then Ideal.ofBits .f32 0x3E38AA3B#32 else 1

theorem pick_lt {n : ℕ} (h : n < 3840) : pick n < 11528 := by unfold pick; split_ifs <;> omega

/-- The projection of row `r` at column `n`. -/
def hid (x : FVec Ideal S2x16384x2048 .f32) (w : FVec Ideal S2048x11528 .f32) (b : FVec Ideal S11528 .f32) (r : Fin 32768) (n : Fin 11528) : EReal :=
  (∑ k : Fin 2048, x (ix3 ⟨r.val / 16384, by omega⟩ ⟨r.val % 16384, by omega⟩ k) * w (ix2 k n)) + b (ix1 n)

variable (x : FVec Ideal S2x16384x2048 .f32) (w : FVec Ideal S2048x11528 .f32) (b : FVec Ideal S11528 .f32)

theorem hid_at (i : Fin 2) (s : Fin 16384) (n : Fin 11528) :
    val_main_v3 (F := Ideal) x w b (ix3 i s n) = hid x w b ⟨i.val * 16384 + s.val, by omega⟩ n := by
  have h1 : (i.val * 16384 + s.val) / 16384 = i.val := by omega
  have h2 : (i.val * 16384 + s.val) % 16384 = s.val := by omega
  pointwise [val_main_v3, val_main_v2, val_main_v1, val_main_v0, hid]
  simp only [h1, h2]

/-- The projection read at an index whose coordinates are known. -/
theorem hid_read (k : S2x16384x11528.Idx) (r : Fin 32768) (n : Fin 11528) (h0 : (k 0).val = r.val / 16384) (h1 : (k 1).val = r.val % 16384) (h2 : (k 2).val = n.val) :
    val_main_v3 (F := Ideal) x w b k = hid x w b r n := by
  have ek : k = ix3 ⟨r.val / 16384, by omega⟩ ⟨r.val % 16384, by omega⟩ n := funext fun a => Fin.ext (by
    match a with
    | ⟨0, _⟩ => exact h0
    | ⟨1, _⟩ => exact h1
    | ⟨2, _⟩ => exact h2)
  have e : (⟨r.val / 16384 * 16384 + r.val % 16384, by omega⟩ : Fin 32768) = r := Fin.ext (by show r.val / 16384 * 16384 + r.val % 16384 = r.val; omega)
  exact (congrArg _ ek).trans ((hid_at x w b _ _ n).trans (congrArg (fun q => hid x w b q n) e))

theorem seg0_at (i : Fin 2) (h : Fin 8) (s : Fin 16384) (l : Fin 64) : val_main_v23 (F := Ideal) x w b (ix4 i h s l)
    = hid x w b ⟨i.val * 16384 + s.val, by omega⟩ ⟨0 + (h.val * 64 + l.val), by omega⟩ * Ideal.ofBits .f32 0x3E38AA3B#32 := by
  rw [val_main_v23_apply, val_main_v22_apply, val_main_v21_apply, val_main_v20_apply, val_main_cst_apply, val_main_v4_apply]
  refine congrArg (fun q : EReal => q * Ideal.ofBits .f32 0x3E38AA3B#32) (hid_read x w b _ _ _ ?_ ?_ ?_)
  · show (((i.val * 16384 + s.val) * 8 + h.val) * 64 + l.val) / 8388608 = (i.val * 16384 + s.val) / 16384; omega
  · show (((i.val * 16384 + s.val) * 8 + h.val) * 64 + l.val) / 512 % 16384 = (i.val * 16384 + s.val) % 16384; omega
  · show (((i.val * 16384 + s.val) * 8 + h.val) * 64 + l.val) % 512 = 0 + (h.val * 64 + l.val); omega

theorem seg1_at (i : Fin 2) (h : Fin 8) (s : Fin 16384) (l : Fin 64) : val_main_v25 (F := Ideal) x w b (ix4 i h s l)
    = hid x w b ⟨i.val * 16384 + s.val, by omega⟩ ⟨512 + (h.val * 64 + l.val), by omega⟩ := by
  rw [val_main_v25_apply, val_main_v24_apply, val_main_v5_apply]
  refine hid_read x w b _ _ _ ?_ ?_ ?_
  · show (((i.val * 16384 + s.val) * 8 + h.val) * 64 + l.val) / 8388608 = (i.val * 16384 + s.val) / 16384; omega
  · show (((i.val * 16384 + s.val) * 8 + h.val) * 64 + l.val) / 512 % 16384 = (i.val * 16384 + s.val) % 16384; omega
  · show 512 + (((i.val * 16384 + s.val) * 8 + h.val) * 64 + l.val) % 512 = 512 + (h.val * 64 + l.val); omega

theorem seg2_at (i : Fin 2) (h : Fin 8) (s : Fin 16384) (l : Fin 64) : val_main_v27 (F := Ideal) x w b (ix4 i h s l)
    = hid x w b ⟨i.val * 16384 + s.val, by omega⟩ ⟨1024 + (h.val * 64 + l.val), by omega⟩ := by
  rw [val_main_v27_apply, val_main_v26_apply, val_main_v6_apply]
  refine hid_read x w b _ _ _ ?_ ?_ ?_
  · show (((i.val * 16384 + s.val) * 8 + h.val) * 64 + l.val) / 8388608 = (i.val * 16384 + s.val) / 16384; omega
  · show (((i.val * 16384 + s.val) * 8 + h.val) * 64 + l.val) / 512 % 16384 = (i.val * 16384 + s.val) % 16384; omega
  · show 1024 + (((i.val * 16384 + s.val) * 8 + h.val) * 64 + l.val) % 512 = 1024 + (h.val * 64 + l.val); omega

theorem seg3_at (i : Fin 2) (h : Fin 8) (s : Fin 16384) (l : Fin 64) : val_main_v29 (F := Ideal) x w b (ix4 i h s l)
    = hid x w b ⟨i.val * 16384 + s.val, by omega⟩ ⟨2056 + (h.val * 64 + l.val), by omega⟩ := by
  rw [val_main_v29_apply, val_main_v28_apply, val_main_v9_apply]
  refine hid_read x w b _ _ _ ?_ ?_ ?_
  · show (((i.val * 16384 + s.val) * 8 + h.val) * 64 + l.val) / 8388608 = (i.val * 16384 + s.val) / 16384; omega
  · show (((i.val * 16384 + s.val) * 8 + h.val) * 64 + l.val) / 512 % 16384 = (i.val * 16384 + s.val) % 16384; omega
  · show 2056 + (((i.val * 16384 + s.val) * 8 + h.val) * 64 + l.val) % 512 = 2056 + (h.val * 64 + l.val); omega

theorem seg4_at (i : Fin 2) (h : Fin 2) (s : Fin 16384) (l : Fin 64) : val_main_v31 (F := Ideal) x w b (ix4 i h s l)
    = hid x w b ⟨i.val * 16384 + s.val, by omega⟩ ⟨2568 + (h.val * 64 + l.val), by omega⟩ := by
  rw [val_main_v31_apply, val_main_v30_apply, val_main_v10_apply]
  refine hid_read x w b _ _ _ ?_ ?_ ?_
  · show (((i.val * 16384 + s.val) * 2 + h.val) * 64 + l.val) / 2097152 = (i.val * 16384 + s.val) / 16384; omega
  · show (((i.val * 16384 + s.val) * 2 + h.val) * 64 + l.val) / 128 % 16384 = (i.val * 16384 + s.val) % 16384; omega
  · show 2568 + (((i.val * 16384 + s.val) * 2 + h.val) * 64 + l.val) % 128 = 2568 + (h.val * 64 + l.val); omega

theorem seg5_at (i : Fin 2) (h : Fin 2) (s : Fin 16384) (l : Fin 64) : val_main_v33 (F := Ideal) x w b (ix4 i h s l)
    = hid x w b ⟨i.val * 16384 + s.val, by omega⟩ ⟨2696 + (h.val * 64 + l.val), by omega⟩ := by
  rw [val_main_v33_apply, val_main_v32_apply, val_main_v11_apply]
  refine hid_read x w b _ _ _ ?_ ?_ ?_
  · show (((i.val * 16384 + s.val) * 2 + h.val) * 64 + l.val) / 2097152 = (i.val * 16384 + s.val) / 16384; omega
  · show (((i.val * 16384 + s.val) * 2 + h.val) * 64 + l.val) / 128 % 16384 = (i.val * 16384 + s.val) % 16384; omega
  · show 2696 + (((i.val * 16384 + s.val) * 2 + h.val) * 64 + l.val) % 128 = 2696 + (h.val * 64 + l.val); omega

theorem seg6_at (i : Fin 2) (h : Fin 8) (s : Fin 16384) (l : Fin 64) : val_main_v37 (F := Ideal) x w b (ix4 i h s l)
    = hid x w b ⟨i.val * 16384 + s.val, by omega⟩ ⟨3336 + (h.val * 64 + l.val), by omega⟩ * Ideal.ofBits .f32 0x3E38AA3B#32 := by
  rw [val_main_v37_apply, val_main_v36_apply, val_main_v35_apply, val_main_v34_apply, val_main_cst_0_apply, val_main_v13_apply]
  refine congrArg (fun q : EReal => q * Ideal.ofBits .f32 0x3E38AA3B#32) (hid_read x w b _ _ _ ?_ ?_ ?_)
  · show (((i.val * 16384 + s.val) * 8 + h.val) * 64 + l.val) / 8388608 = (i.val * 16384 + s.val) / 16384; omega
  · show (((i.val * 16384 + s.val) * 8 + h.val) * 64 + l.val) / 512 % 16384 = (i.val * 16384 + s.val) % 16384; omega
  · show 3336 + (((i.val * 16384 + s.val) * 8 + h.val) * 64 + l.val) % 512 = 3336 + (h.val * 64 + l.val); omega

theorem seg7_at (i : Fin 2) (h : Fin 8) (s : Fin 16384) (l : Fin 64) : val_main_v39 (F := Ideal) x w b (ix4 i h s l)
    = hid x w b ⟨i.val * 16384 + s.val, by omega⟩ ⟨3848 + (h.val * 64 + l.val), by omega⟩ := by
  rw [val_main_v39_apply, val_main_v38_apply, val_main_v14_apply]
  refine hid_read x w b _ _ _ ?_ ?_ ?_
  · show (((i.val * 16384 + s.val) * 8 + h.val) * 64 + l.val) / 8388608 = (i.val * 16384 + s.val) / 16384; omega
  · show (((i.val * 16384 + s.val) * 8 + h.val) * 64 + l.val) / 512 % 16384 = (i.val * 16384 + s.val) % 16384; omega
  · show 3848 + (((i.val * 16384 + s.val) * 8 + h.val) * 64 + l.val) % 512 = 3848 + (h.val * 64 + l.val); omega

theorem seg8_at (i : Fin 2) (h : Fin 8) (s : Fin 16384) (l : Fin 64) : val_main_v41 (F := Ideal) x w b (ix4 i h s l)
    = hid x w b ⟨i.val * 16384 + s.val, by omega⟩ ⟨4360 + (h.val * 64 + l.val), by omega⟩ := by
  rw [val_main_v41_apply, val_main_v40_apply, val_main_v15_apply]
  refine hid_read x w b _ _ _ ?_ ?_ ?_
  · show (((i.val * 16384 + s.val) * 8 + h.val) * 64 + l.val) / 8388608 = (i.val * 16384 + s.val) / 16384; omega
  · show (((i.val * 16384 + s.val) * 8 + h.val) * 64 + l.val) / 512 % 16384 = (i.val * 16384 + s.val) % 16384; omega
  · show 4360 + (((i.val * 16384 + s.val) * 8 + h.val) * 64 + l.val) % 512 = 4360 + (h.val * 64 + l.val); omega

/-- Nine arrays of heads one after the other, read at a head. -/
theorem heads_at (a0 a1 a2 a3 : FVec Ideal S2x8x16384x64 .f32) (a4 a5 : FVec Ideal S2x2x16384x64 .f32) (a6 a7 a8 : FVec Ideal S2x8x16384x64 .f32) (i : Fin 2) (h : Fin 60) (s : Fin 16384) (l : Fin 64)
    (hc : Shape.Concatenates [S2x8x16384x64, S2x8x16384x64, S2x8x16384x64, S2x8x16384x64, S2x2x16384x64, S2x2x16384x64, S2x8x16384x64, S2x8x16384x64, S2x8x16384x64] S2x60x16384x64 1) :
    concatenate S2x60x16384x64 1 [⟨S2x8x16384x64, a0⟩, ⟨S2x8x16384x64, a1⟩, ⟨S2x8x16384x64, a2⟩, ⟨S2x8x16384x64, a3⟩, ⟨S2x2x16384x64, a4⟩, ⟨S2x2x16384x64, a5⟩, ⟨S2x8x16384x64, a6⟩, ⟨S2x8x16384x64, a7⟩, ⟨S2x8x16384x64, a8⟩] hc (ix4 i h s l)
      = if _ : h.val < 8 then a0 (ix4 i ⟨h.val, by omega⟩ s l)
        else if _ : h.val - 8 < 8 then a1 (ix4 i ⟨h.val - 8, by omega⟩ s l)
        else if _ : h.val - 8 - 8 < 8 then a2 (ix4 i ⟨h.val - 8 - 8, by omega⟩ s l)
        else if _ : h.val - 8 - 8 - 8 < 8 then a3 (ix4 i ⟨h.val - 8 - 8 - 8, by omega⟩ s l)
        else if _ : h.val - 8 - 8 - 8 - 8 < 2 then a4 (ix4 i ⟨h.val - 8 - 8 - 8 - 8, by omega⟩ s l)
        else if _ : h.val - 8 - 8 - 8 - 8 - 2 < 2 then a5 (ix4 i ⟨h.val - 8 - 8 - 8 - 8 - 2, by omega⟩ s l)
        else if _ : h.val - 8 - 8 - 8 - 8 - 2 - 2 < 8 then a6 (ix4 i ⟨h.val - 8 - 8 - 8 - 8 - 2 - 2, by omega⟩ s l)
        else if _ : h.val - 8 - 8 - 8 - 8 - 2 - 2 - 8 < 8 then a7 (ix4 i ⟨h.val - 8 - 8 - 8 - 8 - 2 - 2 - 8, by omega⟩ s l)
        else a8 (ix4 i ⟨h.val - 8 - 8 - 8 - 8 - 2 - 2 - 8 - 8, by omega⟩ s l) := by
  pointwise []

theorem trunc_at (y : FVec Ideal S2x60x16384x64 .f32) (k : S2x60x16384x64.Idx) (h : FTy.bits .bf16 < FTy.bits .f32) : truncf .bf16 y h k = y k := rfl

/-- The reference's first result at one entry: the projection at the column shown, scaled. -/
theorem ref_at (i : Fin 2) (h : Fin 60) (s : Fin 16384) (l : Fin 64) : val_main_v43 (F := Ideal) x w b (ix4 i h s l)
      = hid x w b ⟨i.val * 16384 + s.val, by omega⟩ ⟨pick (h.val * 64 + l.val), pick_lt (by omega)⟩ * scale h.val := by
  unfold val_main_v43
  rw [trunc_at]
  unfold val_main_v42
  rw [heads_at]
  simp only [seg0_at, seg1_at, seg2_at, seg3_at, seg4_at, seg5_at, seg6_at, seg7_at, seg8_at]
  unfold scale
  split_ifs
  all_goals first
    | omega
    | (refine congrArg (· * _) (congrArg (hid x w b _) (Fin.ext ?_)); unfold pick; dsimp only; split_ifs <;> omega)
    | (rw [mul_one]; refine congrArg (hid x w b _) (Fin.ext ?_); unfold pick; dsimp only; split_ifs <;> omega)

/-- The reference's second result at one entry: the projection at the forget gates' columns. -/
theorem ref_forget (r : Fin 32768) (j : Fin 8) : val_main_v44 (F := Ideal) x w b (ix2 r j) = hid x w b r ⟨2048 + j.val, by omega⟩ := by
  rw [val_main_v44_apply, val_main_v8_apply]
  refine hid_read x w b _ _ _ ?_ ?_ ?_
  · show (r.val * 8 + j.val) / 131072 = r.val / 16384; omega
  · show (r.val * 8 + j.val) / 8 % 16384 = r.val % 16384; omega
  · show 2048 + (r.val * 8 + j.val) % 8 = 2048 + j.val; omega

end Cert.Qkv

end
-- ==== Proof.Qkv.Host.lean ====
/- The arrays the projection to queries, keys and values is launched with. -/
module

public import proofs.«01_k».proof.Proof.Qkv.Body
public import proofs.«01_k».proof.Proof.Qkv.Ref
public import Idealize.ShloMosaic.Lib.Routing.OpsSet
public import Idealize.ShloMosaic.Lib.Routing.OpsPair

@[expose] public section

set_option maxRecDepth 16384

noncomputable section

namespace Cert.Qkv

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

theorem flat_at (x : FVec Ideal S2x16384x2048 .f32) (h : S2x16384x2048.ShapeCasts S32768x2048) (r : Fin 32768) (k : Fin 2048) :
    shapeCast S32768x2048 x h (ix2 r k) = x (ix3 ⟨r.val / 16384, by omega⟩ ⟨r.val % 16384, by omega⟩ k) :=
  shapeCast_apply x h (ix2 r k) (ix3 ⟨r.val / 16384, by omega⟩ ⟨r.val % 16384, by omega⟩ k) (by
    rewrite [Shape.rowMajor_val_three, Shape.rowMajor_val_two]
    show (r.val / 16384 * 16384 + r.val % 16384) * 2048 + k.val = r.val * 2048 + k.val
    omega)

/-- The rows the kernel reads: those of the two batches, one after the other. -/
theorem rows_at (r : Fin 32768) (k : Fin 2048) : V m c main_v28 (ix2 r k)
    = m ((c : Thread nD τ).loc main_arg0) (ix3 ⟨r.val / 16384, by omega⟩ ⟨r.val % 16384, by omega⟩ k) := by
  have e : V m c main_v28 = shapeCast S32768x2048 (m ((c : Thread nD τ).loc main_arg0)) shapeCasts_S2x16384x2048_S32768x2048 := by
    rfl
  exact (congrFun e (ix2 r k)).trans (flat_at _ _ r k)

/-- Nine segments of columns laid side by side, read at a column. -/
theorem cat1_at (a0 : FVec Ideal S2048x512 .f32) (a1 : FVec Ideal S2048x512 .f32) (a2 : FVec Ideal S2048x512 .f32) (a3 : FVec Ideal S2048x512 .f32) (a4 : FVec Ideal S2048x128 .f32) (a5 : FVec Ideal S2048x128 .f32) (a6 : FVec Ideal S2048x512 .f32) (a7 : FVec Ideal S2048x512 .f32) (a8 : FVec Ideal S2048x512 .f32) (k : Fin 2048) (j : Fin 3840)
    (h : Shape.Concatenates [S2048x512, S2048x512, S2048x512, S2048x512, S2048x128, S2048x128, S2048x512, S2048x512, S2048x512] S2048x3840 1) :
    concatenate S2048x3840 1 [⟨S2048x512, a0⟩, ⟨S2048x512, a1⟩, ⟨S2048x512, a2⟩, ⟨S2048x512, a3⟩, ⟨S2048x128, a4⟩, ⟨S2048x128, a5⟩, ⟨S2048x512, a6⟩, ⟨S2048x512, a7⟩, ⟨S2048x512, a8⟩] h (ix2 k j)
      = if _ : j.val < 512 then a0 (ix2 k ⟨j.val, by omega⟩)
        else if _ : j.val - 512 < 512 then a1 (ix2 k ⟨j.val - 512, by omega⟩)
        else if _ : j.val - 512 - 512 < 512 then a2 (ix2 k ⟨j.val - 512 - 512, by omega⟩)
        else if _ : j.val - 512 - 512 - 512 < 512 then a3 (ix2 k ⟨j.val - 512 - 512 - 512, by omega⟩)
        else if _ : j.val - 512 - 512 - 512 - 512 < 128 then a4 (ix2 k ⟨j.val - 512 - 512 - 512 - 512, by omega⟩)
        else if _ : j.val - 512 - 512 - 512 - 512 - 128 < 128 then a5 (ix2 k ⟨j.val - 512 - 512 - 512 - 512 - 128, by omega⟩)
        else if _ : j.val - 512 - 512 - 512 - 512 - 128 - 128 < 512 then a6 (ix2 k ⟨j.val - 512 - 512 - 512 - 512 - 128 - 128, by omega⟩)
        else if _ : j.val - 512 - 512 - 512 - 512 - 128 - 128 - 512 < 512 then a7 (ix2 k ⟨j.val - 512 - 512 - 512 - 512 - 128 - 128 - 512, by omega⟩)
        else a8 (ix2 k ⟨j.val - 512 - 512 - 512 - 512 - 128 - 128 - 512 - 512, by omega⟩) := by
  pointwise []

theorem cat0_at (a0 : FVec Ideal S512 .f32) (a1 : FVec Ideal S512 .f32) (a2 : FVec Ideal S512 .f32) (a3 : FVec Ideal S512 .f32) (a4 : FVec Ideal S128 .f32) (a5 : FVec Ideal S128 .f32) (a6 : FVec Ideal S512 .f32) (a7 : FVec Ideal S512 .f32) (a8 : FVec Ideal S512 .f32) (j : Fin 3840)
    (h : Shape.Concatenates [S512, S512, S512, S512, S128, S128, S512, S512, S512] S3840 0) :
    concatenate S3840 0 [⟨S512, a0⟩, ⟨S512, a1⟩, ⟨S512, a2⟩, ⟨S512, a3⟩, ⟨S128, a4⟩, ⟨S128, a5⟩, ⟨S512, a6⟩, ⟨S512, a7⟩, ⟨S512, a8⟩] h (ix1 j)
      = if _ : j.val < 512 then a0 (ix1 ⟨j.val, by omega⟩)
        else if _ : j.val - 512 < 512 then a1 (ix1 ⟨j.val - 512, by omega⟩)
        else if _ : j.val - 512 - 512 < 512 then a2 (ix1 ⟨j.val - 512 - 512, by omega⟩)
        else if _ : j.val - 512 - 512 - 512 < 512 then a3 (ix1 ⟨j.val - 512 - 512 - 512, by omega⟩)
        else if _ : j.val - 512 - 512 - 512 - 512 < 128 then a4 (ix1 ⟨j.val - 512 - 512 - 512 - 512, by omega⟩)
        else if _ : j.val - 512 - 512 - 512 - 512 - 128 < 128 then a5 (ix1 ⟨j.val - 512 - 512 - 512 - 512 - 128, by omega⟩)
        else if _ : j.val - 512 - 512 - 512 - 512 - 128 - 128 < 512 then a6 (ix1 ⟨j.val - 512 - 512 - 512 - 512 - 128 - 128, by omega⟩)
        else if _ : j.val - 512 - 512 - 512 - 512 - 128 - 128 - 512 < 512 then a7 (ix1 ⟨j.val - 512 - 512 - 512 - 512 - 128 - 128 - 512, by omega⟩)
        else a8 (ix1 ⟨j.val - 512 - 512 - 512 - 512 - 128 - 128 - 512 - 512, by omega⟩) := by
  pointwise []

/-- The nine segments of the weights' columns side by side. -/
def cat1 (w : FVec Ideal S2048x11528 .f32) : FVec Ideal S2048x3840 .f32 :=
  concatenate S2048x3840 1
    [⟨S2048x512, extractStridedSlice S2048x512 ![0, 0] w slices_S2048x11528_S2048x512_0_0⟩,
      ⟨S2048x512, extractStridedSlice S2048x512 ![0, 512] w slices_S2048x11528_S2048x512_0_512⟩,
      ⟨S2048x512, extractStridedSlice S2048x512 ![0, 1024] w slices_S2048x11528_S2048x512_0_1024⟩,
      ⟨S2048x512, extractStridedSlice S2048x512 ![0, 2056] w slices_S2048x11528_S2048x512_0_2056⟩,
      ⟨S2048x128, extractStridedSlice S2048x128 ![0, 2568] w slices_S2048x11528_S2048x128_0_2568⟩,
      ⟨S2048x128, extractStridedSlice S2048x128 ![0, 2696] w slices_S2048x11528_S2048x128_0_2696⟩,
      ⟨S2048x512, extractStridedSlice S2048x512 ![0, 3336] w slices_S2048x11528_S2048x512_0_3336⟩,
      ⟨S2048x512, extractStridedSlice S2048x512 ![0, 3848] w slices_S2048x11528_S2048x512_0_3848⟩,
      ⟨S2048x512, extractStridedSlice S2048x512 ![0, 4360] w slices_S2048x11528_S2048x512_0_4360⟩]
    concatenates_S2048x512_S2048x512_S2048x512_S2048x512_S2048x128_S2048x128_S2048x512_S2048x512_S2048x512_S2048x3840_d1

/-- The nine segments of the bias side by side. -/
def cat0 (w : FVec Ideal S11528 .f32) : FVec Ideal S3840 .f32 :=
  concatenate S3840 0
    [⟨S512, extractStridedSlice S512 ![0] w slices_S11528_S512_0⟩,
      ⟨S512, extractStridedSlice S512 ![512] w slices_S11528_S512_512⟩,
      ⟨S512, extractStridedSlice S512 ![1024] w slices_S11528_S512_1024⟩,
      ⟨S512, extractStridedSlice S512 ![2056] w slices_S11528_S512_2056⟩,
      ⟨S128, extractStridedSlice S128 ![2568] w slices_S11528_S128_2568⟩,
      ⟨S128, extractStridedSlice S128 ![2696] w slices_S11528_S128_2696⟩,
      ⟨S512, extractStridedSlice S512 ![3336] w slices_S11528_S512_3336⟩,
      ⟨S512, extractStridedSlice S512 ![3848] w slices_S11528_S512_3848⟩,
      ⟨S512, extractStridedSlice S512 ![4360] w slices_S11528_S512_4360⟩]
    concatenates_S512_S512_S512_S512_S128_S128_S512_S512_S512_S3840_d0

theorem cat1_pick (w : FVec Ideal S2048x11528 .f32) (k : Fin 2048) (j : Fin 3840) : cat1 w (ix2 k j) = w (ix2 k ⟨pick j.val, pick_lt j.isLt⟩) := by
  unfold cat1
  rw [cat1_at]
  pointwise []
  unfold pick
  split_ifs
  all_goals first | omega | exact congrArg w (congrArg (ix2 k) (Fin.ext (by first | omega | (simp only; omega))))

theorem cat0_pick (w : FVec Ideal S11528 .f32) (j : Fin 3840) : cat0 w (ix1 j) = w (ix1 ⟨pick j.val, pick_lt j.isLt⟩) := by
  unfold cat0
  rw [cat0_at]
  pointwise []
  unfold pick
  split_ifs
  all_goals first | omega | exact congrArg w (congrArg ix1 (Fin.ext (by first | omega | (simp only; omega))))

/-- The weights' columns the kernel reads. -/
theorem cols_at (k : Fin 2048) (j : Fin 3840) : V m c main_v10 (ix2 k j) = m ((c : Thread nD τ).loc main_arg1) (ix2 k ⟨pick j.val, pick_lt j.isLt⟩) := by
  have e : V m c main_v10 = truncf .bf16 (cat1 (m ((c : Thread nD τ).loc main_arg1))) bitsLt_bf16_f32 := by
    rfl
  exact (congrFun e (ix2 k j)).trans (cat1_pick _ k j)

/-- The bias the kernel reads. -/
theorem bias_at (j : Fin 3840) : V m c main_v21 (ix2 0 j) = m ((c : Thread nD τ).loc main_arg2) (ix1 ⟨pick j.val, pick_lt j.isLt⟩) := by
  have e : V m c main_v21 = broadcastInDim S1x3840 ![1] bcast_S3840_S1x3840_1 (cat0 (m ((c : Thread nD τ).loc main_arg2))) := by
    rfl
  refine (congrFun e (ix2 0 j)).trans (Eq.trans ?_ (cat0_pick _ j))
  generalize cat0 (m ((c : Thread nD τ).loc main_arg2)) = w
  pointwise []

/-- The forget gates' columns, among zeros. -/
def fcols (w : FVec Ideal S2048x11528 .f32) : FVec Ideal S2048x128 .f32 :=
  pad S2048x128 ![0, 0] ![0, 120] ![0, 0] (extractStridedSlice S2048x8 ![0, 2048] w slices_S2048x11528_S2048x8_0_2048)
    (sitofp (F := Ideal) .f32 (constantI S_ 32 0#32)) pads_S2048x8_S2048x128_000_01200 h_S_

def fbias (w : FVec Ideal S11528 .f32) : FVec Ideal S128 .f32 :=
  pad S128 ![0] ![120] ![0] (extractStridedSlice S8 ![2048] w slices_S11528_S8_2048)
    (sitofp (F := Ideal) .f32 (constantI S_ 32 0#32)) pads_S8_S128_01200 h_S_

theorem fcols_pick (w : FVec Ideal S2048x11528 .f32) (k : Fin 2048) (j : Fin 128) (h : j.val < 8) : fcols w (ix2 k j) = w (ix2 k ⟨2048 + j.val, by omega⟩) := by
  unfold fcols
  generalize (sitofp (F := Ideal) .f32 (constantI S_ 32 0#32) : FVec Ideal S_ .f32) = z
  pointwise []
  simp [h]

theorem fbias_pick (w : FVec Ideal S11528 .f32) (j : Fin 128) (h : j.val < 8) : fbias w (ix1 j) = w (ix1 ⟨2048 + j.val, by omega⟩) := by
  unfold fbias
  generalize (sitofp (F := Ideal) .f32 (constantI S_ 32 0#32) : FVec Ideal S_ .f32) = z
  pointwise []
  simp [h]

/-- The forget gates' columns the kernel reads. -/
theorem fcols_at (k : Fin 2048) (j : Fin 128) (h : j.val < 8) :
    V m c main_v24 (ix2 k j) = m ((c : Thread nD τ).loc main_arg1) (ix2 k ⟨2048 + j.val, by omega⟩) := by
  have e : V m c main_v24 = truncf .bf16 (fcols (m ((c : Thread nD τ).loc main_arg1))) bitsLt_bf16_f32 := by
    rfl
  exact (congrFun e (ix2 k j)).trans (fcols_pick _ k j h)

theorem fbias_at (j : Fin 128) (h : j.val < 8) : V m c main_v27 (ix2 0 j) = m ((c : Thread nD τ).loc main_arg2) (ix1 ⟨2048 + j.val, by omega⟩) := by
  have e : V m c main_v27 = broadcastInDim S1x128 ![1] bcast_S128_S1x128_1 (fbias (m ((c : Thread nD τ).loc main_arg2))) := by
    rfl
  refine (congrFun e (ix2 0 j)).trans (Eq.trans ?_ (fbias_pick _ j h))
  generalize fbias (m ((c : Thread nD τ).loc main_arg2)) = w
  pointwise []

/-! ## The scales -/

/-- Eight rows from row `p` on set to the scale. -/
def setRows (x : FVec Ideal S60x64 .f32) (p : BitVec 32) : FVec Ideal S60x64 .f32 :=
  Host.scatter scatter_S60x64_S1_S8x64_01_n_0_0 (fun _ b => b) x (broadcastInDim S1 ![] bcast_S_S1 (constantI S_ 32 p))
    (broadcastInDim S8x64 ![] bcast_S_S8x64 (constant (F := Ideal) S_ .f32 0x3E38AA3B#32))

/-- Where an update lands. -/
theorem lands (p : BitVec 32) (k : S8x64.Idx) (i : Fin 60) (l : Fin 64) :
    scatter_S60x64_S1_S8x64_01_n_0_0.resultIdx? k (broadcastInDim S1 ![] bcast_S_S1 (constantI S_ 32 p)) = some (ix2 i l)
      ↔ p.toInt + ((k 0).val : Int) = (i.val : Int) ∧ ((k 1).val : Int) = (l.val : Int) := by
  rw [Routing.resultIdx?_eq_some]
  have s0 : scatter_S60x64_S1_S8x64_01_n_0_0.start k (broadcastInDim S1 ![] bcast_S_S1 (constantI S_ 32 p)) 0 = p.toInt := rfl
  have s1 : scatter_S60x64_S1_S8x64_01_n_0_0.start k (broadcastInDim S1 ![] bcast_S_S1 (constantI S_ 32 p)) 1 = 0 := rfl
  have w0 : scatter_S60x64_S1_S8x64_01_n_0_0.window k 0 = (k 0).val := rfl
  have w1 : scatter_S60x64_S1_S8x64_01_n_0_0.window k 1 = (k 1).val := rfl
  constructor
  · intro h
    have h0 := h 0
    have h1 := h 1
    rw [s0, w0] at h0
    rw [s1, w1] at h1
    exact ⟨h0, by simpa using h1⟩
  · rintro ⟨h0, h1⟩ a
    match a with
    | ⟨0, _⟩ => exact (congrArg₂ (fun (a : Int) (b : ℕ) => a + (b : Int)) s0 w0).trans h0
    | ⟨1, _⟩ => exact (congrArg₂ (fun (a : Int) (b : ℕ) => a + (b : Int)) s1 w1).trans ((zero_add _).trans h1)

theorem setRows_at (x : FVec Ideal S60x64 .f32) (p : BitVec 32) (q : ℕ) (hq : p.toInt = (q : Int)) (i : Fin 60) (l : Fin 64) :
    setRows x p (ix2 i l) = if q ≤ i.val ∧ i.val < q + 8 then Ideal.ofBits .f32 0x3E38AA3B#32 else x (ix2 i l) := by
  unfold setRows
  by_cases h : q ≤ i.val ∧ i.val < q + 8
  · rw [if_pos h]
    refine Routing.scatter_set_hit _ _ _ _ _ _ (fun _ _ => rfl) (ix2 ⟨i.val - q, by omega⟩ l) ((lands p _ i l).2 ⟨?_, rfl⟩)
    rw [hq]
    show (q : Int) + ((i.val - q : ℕ) : Int) = (i.val : Int)
    omega
  · rw [if_neg h]
    refine Routing.scatter_set_miss _ _ _ _ _ fun k hk => h ?_
    have h0 := ((lands p k i l).1 hk).1
    have hk0 : (k 0).val < 8 := (k 0).isLt
    rw [hq] at h0
    omega

/-- The scales of the heads, one to a lane. -/
def scales : FVec Ideal S60x64 .f32 :=
  setRows (setRows (broadcastInDim S60x64 ![] bcast_S_S60x64 (constant (F := Ideal) S_ .f32 0x3F800000#32)) 0#32) 36#32

theorem one_f32 : Ideal.ofBits .f32 0x3F800000#32 = 1 := by
  simp [Ideal.ofBits, Ideal.ieee, -EReal.coe_mul]; norm_num

theorem scales_at' (i : Fin 60) (l : Fin 64) : scales (ix2 i l) = scale i.val := by
  unfold scales
  rw [setRows_at _ 36#32 36 rfl, setRows_at _ 0#32 0 rfl]
  unfold scale
  have e : (broadcastInDim S60x64 ![] bcast_S_S60x64 (constant (F := Ideal) S_ .f32 0x3F800000#32) : FVec Ideal S60x64 .f32) (ix2 i l) = 1 := one_f32
  rw [e]
  split_ifs <;> first | rfl | omega

set_option maxHeartbeats 3200000 in
/-- The scales the kernel reads. -/
theorem scales_at (j : Fin 3840) : V m c main_v95 (ix2 0 j) = scale (j.val / 64) := by
  have e : V m c main_v95 = shapeCast S1x3840 scales shapeCasts_S60x64_S1x3840 := by
    unfold V V0
    simp only [hostOps0, hostOps0_1, hostOps0_2, hostOps0_3, hostOps0_4, List.flatten_cons, List.flatten_nil, List.append_nil, List.cons_append,
      List.nil_append]
    after_results
    rfl
  refine (congrFun e (ix2 0 j)).trans (Eq.trans (shapeCast_apply scales shapeCasts_S60x64_S1x3840 (ix2 0 j) (ix2 ⟨j.val / 64, by omega⟩ ⟨j.val % 64, by omega⟩) ?_) (scales_at' _ _))
  rewrite [Shape.rowMajor_val_two, Shape.rowMajor_val_two]
  show j.val / 64 * 64 + j.val % 64 = 0 * 3840 + j.val
  omega

end Cert.Qkv

end
-- ==== Proof.Qkv.Kern.lean ====
/- The projection's values: each head's lanes are slices of one product, read through a lane rotation for the odd heads. -/
module

public import proofs.«01_k».proof.Proof.Qkv.Host

@[expose] public section

set_option maxRecDepth 16384

noncomputable section

namespace Cert.Qkv

open Idealize.ShloMosaic Idealize.ShloMosaic.TcCoe Idealize.SL.Sem
open Cert.Kernel4Ideal Cert.Kernel4Ideal.Gen

/-! ## One head of the product -/

/-- The lanes below 64 take the data. -/
theorem low (n : ℕ) (h : n < 64) : IntOp.cmpi CmpIPredicate.slt (BitVec.ofNat 32 n) 64#32 = 1#1 :=
  (by decide : ∀ n : Fin 64, IntOp.cmpi CmpIPredicate.slt (BitVec.ofNat 32 n.val) 64#32 = 1#1) ⟨n, h⟩

/-- An even head: the lanes below 64 are a slice of the product. -/
theorem even_at (D : FVec Ideal S1024x1280 .f32) (bias : FVec Ideal S1024x128 .f32) (o : ℕ) (ho : o + 128 ≤ 1280) (h : S1024x1280.Slices ![0, o] S1024x128)
    (hb : FTy.bits .bf16 < FTy.bits .f32) (hc : S1024x128.ShapeCasts S1x1x1024x128) (r : Fin 1024) (l : Fin 128) (hl : l.val < 64) :
    shapeCast S1x1x1024x128 (truncf (F := Ideal) .bf16 (select k0_pay11 (extractStridedSlice S1024x128 ![0, o] D h) bias) hb) hc (ix4 0 0 r l)
      = D (ix2 r ⟨o + l.val, by omega⟩) := by
  pointwise [k0_pay11]
  rw [low _ hl]
  rfl

/-- An odd head: the slice is rotated by 64 lanes first. -/
theorem odd_at (D : FVec Ideal S1024x1280 .f32) (bias : FVec Ideal S1024x128 .f32) (o : ℕ) (ho : o + 128 ≤ 1280) (h : S1024x1280.Slices ![0, o] S1024x128)
    (hr : S1024x128.Rotates 1 none)
    (hb : FTy.bits .bf16 < FTy.bits .f32) (hc : S1024x128.ShapeCasts S1x1x1024x128) (r : Fin 1024) (l : Fin 128) (hl : l.val < 64) :
    shapeCast S1x1x1024x128 (truncf (F := Ideal) .bf16 (select k0_pay11 (dynamicRotate 1 64#32 none (extractStridedSlice S1024x128 ![0, o] D h) hr) bias) hb) hc (ix4 0 0 r l)
      = D (ix2 r ⟨o + (64 + l.val), by omega⟩) := by
  pointwise [k0_pay11]
  rw [low _ hl]
  show D _ = D _
  have e : (l.val + 128 - 64) % 128 = 64 + l.val := by omega
  simp only [e]

/-- An index of one head's block. -/
theorem block_idx (x : S1x1x1024x128.Idx) : x = ix4 0 0 (⟨(x 2).val, (x 2).isLt⟩ : Fin 1024) (⟨(x 3).val, (x 3).isLt⟩ : Fin 128) := by
  funext a
  match a with
  | ⟨0, _⟩ => exact Fin.ext (Nat.lt_one_iff.1 (x 0).isLt)
  | ⟨1, _⟩ => exact Fin.ext (Nat.lt_one_iff.1 (x 1).isLt)
  | ⟨2, _⟩ => rfl
  | ⟨3, _⟩ => rfl

theorem key_even (D : FVec Ideal S1024x1280 .f32) (bias : FVec Ideal S1024x128 .f32) (o : ℕ) (h : S1024x1280.Slices ![0, o] S1024x128)
    (hb : FTy.bits .bf16 < FTy.bits .f32) (hc : S1024x128.ShapeCasts S1x1x1024x128) (x : S1x1x1024x128.Idx) (r : Fin 1024) (j : Fin 1280)
    (ho : o + 128 ≤ 1280) (hl : (x 3).val < 64) (hr : r.val = (x 2).val) (hj : j.val = o + (x 3).val) :
    shapeCast S1x1x1024x128 (truncf (F := Ideal) .bf16 (select k0_pay11 (extractStridedSlice S1024x128 ![0, o] D h) bias) hb) hc x = D (ix2 r j) := by
  have er : r = ⟨(x 2).val, (x 2).isLt⟩ := Fin.ext hr
  have ej : j = ⟨o + (x 3).val, by omega⟩ := Fin.ext hj
  rw [er, ej]
  exact (congrArg _ (block_idx x)).trans (even_at D bias o ho h hb hc _ _ hl)

theorem key_odd (D : FVec Ideal S1024x1280 .f32) (bias : FVec Ideal S1024x128 .f32) (o : ℕ) (h : S1024x1280.Slices ![0, o] S1024x128) (hr' : S1024x128.Rotates 1 none)
    (hb : FTy.bits .bf16 < FTy.bits .f32) (hc : S1024x128.ShapeCasts S1x1x1024x128) (x : S1x1x1024x128.Idx) (r : Fin 1024) (j : Fin 1280)
    (ho : o + 128 ≤ 1280) (hl : (x 3).val < 64) (hr : r.val = (x 2).val) (hj : j.val = o + (64 + (x 3).val)) :
    shapeCast S1x1x1024x128 (truncf (F := Ideal) .bf16 (select k0_pay11 (dynamicRotate 1 64#32 none (extractStridedSlice S1024x128 ![0, o] D h) hr') bias) hb) hc x
      = D (ix2 r j) := by
  have er : r = ⟨(x 2).val, (x 2).isLt⟩ := Fin.ext hr
  have ej : j = ⟨o + (64 + (x 3).val), by omega⟩ := Fin.ext hj
  rw [er, ej]
  exact (congrArg _ (block_idx x)).trans (odd_at D bias o ho h hr' hb hc _ _ hl)

variable (m : (ℓ : Loc nD τ sig) → Buf (Elt Ideal) ℓ) (c : Dev nD)

/-- The product's entry. -/
theorem prod_at (x : Vec Ideal S1024x2048 .bf16) (w : Vec Ideal S2048x1280 .bf16) (b s : Vec Ideal S1x1280 .f32) (r : Fin 1024) (j : Fin 1280) :
    k0_pay7 (F := Ideal) x w b s (ix2 r j) = ((∑ k : Fin 2048, x (ix2 r k) * w (ix2 k j)) + b (ix2 0 j)) * s (ix2 0 j) := by
  pointwise [k0_pay7]

/-- The forget columns' entry. -/
theorem forget_at (x : Vec Ideal S1024x2048 .bf16) (w : Vec Ideal S2048x128 .bf16) (b : Vec Ideal S1x128 .f32) (r : Fin 1024) (j : Fin 128) :
    k0_pay6 (F := Ideal) x w b (ix2 r j) = (∑ k : Fin 2048, x (ix2 r k) * w (ix2 k j)) + b (ix2 0 j) := by
  pointwise [k0_pay6]

theorem rows_eq (x : Vec Ideal S1024x2048 .f32) (r : Fin 1024) (k : Fin 2048) : k0_pay5 (F := Ideal) x (ix2 r k) = x (ix2 r k) := by
  pointwise [k0_pay5]

/-! ## The blocks -/

theorem N_eq : cfg0.N = 96 := N_0

theorem idx : ∀ t : Fin cfg0.N, win0_0.index t = ![t.val / 3, 0] ∧ win0_1.index t = ![0, t.val % 3] ∧ win0_2.index t = ![0, t.val % 3]
    ∧ win0_3.index t = ![0, t.val % 3] ∧ win0_7.index t = ![0, 0] ∧ win0_8.index t = ![0, 0]
    ∧ win0_9.index t = ![t.val / 48, t.val % 3, t.val / 3 % 16, 0] ∧ win0_10.index t = ![t.val / 3, 0] :=
  (by decide +kernel : ∀ t : Fin grid0.N, _)

/-- The rows in use at a point. -/
theorem kept (t : Fin cfg0.N) : keptAt m c t = k0_pay5 (F := Ideal) (iblk m c 0 (start t)) := by
  funext y
  unfold keptAt rowsAt outA_s
  frame_out

theorem second (t : Fin cfg0.N) : secondAt m c t
    = k0_pay6 (F := Ideal) (k0_pay5 (F := Ideal) (iblk m c 0 (start t))) (iblk m c 7 (start t)) (iblk m c 8 (start t)) := by
  funext y
  unfold secondAt forgetAt outA_10
  frame_out

set_option maxHeartbeats 8000000 in
/-- One head's data lanes after a point. -/
theorem first_at (t : Fin cfg0.N) (y : S1x20x1024x128.Idx) (hl : (y 3).val < 64) : firstAt m c t y
    = k0_pay7 (F := Ideal) (k0_pay5 (F := Ideal) (iblk m c 0 (start t))) (iblk m c 1 t) (iblk m c 2 t) (iblk m c 3 t)
        (ix2 ⟨(y 2).val, (y 2).isLt⟩ ⟨(y 1).val * 64 + (y 3).val, by have := (show (y 1).val < 20 from (y 1).isLt); omega⟩) := by
  unfold firstAt
  by_cases h0 : t.val % 3 = 0
  · rw [dif_pos h0, start_self t h0]
    unfold outA_9
    frame_out
    generalize k0_pay7 (F := Ideal) _ _ _ _ = D
    canon_tiles x h
    case piece0 =>
      dsimp only [k0_pay4, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 1152 slices_S1024x1280_o0_1152_S1024x128 rotates_S1024x128_d1 bitsLt_bf16_f32 shapeCasts_S1024x128_S1x1x1024x128 x _ _ (by omega) (by omega) (by simp only; omega) (by simp only; omega)
    case piece1 =>
      dsimp only [k0_pay3, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 1152 slices_S1024x1280_o0_1152_S1024x128 bitsLt_bf16_f32 shapeCasts_S1024x128_S1x1x1024x128 x _ _ (by omega) (by omega) (by simp only; omega) (by simp only; omega)
    case piece2 =>
      dsimp only [k0_pay1, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 1024 slices_S1024x1280_o0_1024_S1024x128 rotates_S1024x128_d1 bitsLt_bf16_f32 shapeCasts_S1024x128_S1x1x1024x128 x _ _ (by omega) (by omega) (by simp only; omega) (by simp only; omega)
    case piece3 =>
      dsimp only [k0_pay49, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 1024 slices_S1024x1280_o0_1024_S1024x128 bitsLt_bf16_f32 shapeCasts_S1024x128_S1x1x1024x128 x _ _ (by omega) (by omega) (by simp only; omega) (by simp only; omega)
    case piece4 =>
      dsimp only [k0_pay46, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 896 slices_S1024x1280_o0_896_S1024x128 rotates_S1024x128_d1 bitsLt_bf16_f32 shapeCasts_S1024x128_S1x1x1024x128 x _ _ (by omega) (by omega) (by simp only; omega) (by simp only; omega)
    case piece5 =>
      dsimp only [k0_pay45, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 896 slices_S1024x1280_o0_896_S1024x128 bitsLt_bf16_f32 shapeCasts_S1024x128_S1x1x1024x128 x _ _ (by omega) (by omega) (by simp only; omega) (by simp only; omega)
    case piece6 =>
      dsimp only [k0_pay43, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 768 slices_S1024x1280_o0_768_S1024x128 rotates_S1024x128_d1 bitsLt_bf16_f32 shapeCasts_S1024x128_S1x1x1024x128 x _ _ (by omega) (by omega) (by simp only; omega) (by simp only; omega)
    case piece7 =>
      dsimp only [k0_pay41, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 768 slices_S1024x1280_o0_768_S1024x128 bitsLt_bf16_f32 shapeCasts_S1024x128_S1x1x1024x128 x _ _ (by omega) (by omega) (by simp only; omega) (by simp only; omega)
    case piece8 =>
      dsimp only [k0_pay39, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 640 slices_S1024x1280_o0_640_S1024x128 rotates_S1024x128_d1 bitsLt_bf16_f32 shapeCasts_S1024x128_S1x1x1024x128 x _ _ (by omega) (by omega) (by simp only; omega) (by simp only; omega)
    case piece9 =>
      dsimp only [k0_pay38, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 640 slices_S1024x1280_o0_640_S1024x128 bitsLt_bf16_f32 shapeCasts_S1024x128_S1x1x1024x128 x _ _ (by omega) (by omega) (by simp only; omega) (by simp only; omega)
    case piece10 =>
      dsimp only [k0_pay35, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 512 slices_S1024x1280_o0_512_S1024x128 rotates_S1024x128_d1 bitsLt_bf16_f32 shapeCasts_S1024x128_S1x1x1024x128 x _ _ (by omega) (by omega) (by simp only; omega) (by simp only; omega)
    case piece11 =>
      dsimp only [k0_pay33, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 512 slices_S1024x1280_o0_512_S1024x128 bitsLt_bf16_f32 shapeCasts_S1024x128_S1x1x1024x128 x _ _ (by omega) (by omega) (by simp only; omega) (by simp only; omega)
    case piece12 =>
      dsimp only [k0_pay30, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 384 slices_S1024x1280_o0_384_S1024x128 rotates_S1024x128_d1 bitsLt_bf16_f32 shapeCasts_S1024x128_S1x1x1024x128 x _ _ (by omega) (by omega) (by simp only; omega) (by simp only; omega)
    case piece13 =>
      dsimp only [k0_pay27, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 384 slices_S1024x1280_o0_384_S1024x128 bitsLt_bf16_f32 shapeCasts_S1024x128_S1x1x1024x128 x _ _ (by omega) (by omega) (by simp only; omega) (by simp only; omega)
    case piece14 =>
      dsimp only [k0_pay24, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 256 slices_S1024x1280_o0_256_S1024x128 rotates_S1024x128_d1 bitsLt_bf16_f32 shapeCasts_S1024x128_S1x1x1024x128 x _ _ (by omega) (by omega) (by simp only; omega) (by simp only; omega)
    case piece15 =>
      dsimp only [k0_pay22, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 256 slices_S1024x1280_o0_256_S1024x128 bitsLt_bf16_f32 shapeCasts_S1024x128_S1x1x1024x128 x _ _ (by omega) (by omega) (by simp only; omega) (by simp only; omega)
    case piece16 =>
      dsimp only [k0_pay19, k0_pay16, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 128 slices_S1024x1280_o0_128_S1024x128 rotates_S1024x128_d1 bitsLt_bf16_f32 shapeCasts_S1024x128_S1x1x1024x128 x _ _ (by omega) (by omega) (by simp only; omega) (by simp only; omega)
    case piece17 =>
      dsimp only [k0_pay17, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 128 slices_S1024x1280_o0_128_S1024x128 bitsLt_bf16_f32 shapeCasts_S1024x128_S1x1x1024x128 x _ _ (by omega) (by omega) (by simp only; omega) (by simp only; omega)
    case piece18 =>
      dsimp only [k0_pay14, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 0 slices_S1024x1280_o0_0_S1024x128 rotates_S1024x128_d1 bitsLt_bf16_f32 shapeCasts_S1024x128_S1x1x1024x128 x _ _ (by omega) (by omega) (by simp only; omega) (by simp only; omega)
    case piece19 =>
      dsimp only [k0_pay13, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 0 slices_S1024x1280_o0_0_S1024x128 bitsLt_bf16_f32 shapeCasts_S1024x128_S1x1x1024x128 x _ _ (by omega) (by omega) (by simp only; omega) (by simp only; omega)
  · rw [dif_neg h0, kept]
    unfold outB_9
    frame_out
    erw [Memref.IsWhole.read_unread]
    generalize k0_pay7 (F := Ideal) _ _ _ _ = D
    canon_tiles x h
    case piece0 =>
      dsimp only [k0_pay4, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 1152 slices_S1024x1280_o0_1152_S1024x128 rotates_S1024x128_d1 bitsLt_bf16_f32 shapeCasts_S1024x128_S1x1x1024x128 x _ _ (by omega) (by omega) (by simp only; omega) (by simp only; omega)
    case piece1 =>
      dsimp only [k0_pay3, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 1152 slices_S1024x1280_o0_1152_S1024x128 bitsLt_bf16_f32 shapeCasts_S1024x128_S1x1x1024x128 x _ _ (by omega) (by omega) (by simp only; omega) (by simp only; omega)
    case piece2 =>
      dsimp only [k0_pay1, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 1024 slices_S1024x1280_o0_1024_S1024x128 rotates_S1024x128_d1 bitsLt_bf16_f32 shapeCasts_S1024x128_S1x1x1024x128 x _ _ (by omega) (by omega) (by simp only; omega) (by simp only; omega)
    case piece3 =>
      dsimp only [k0_pay49, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 1024 slices_S1024x1280_o0_1024_S1024x128 bitsLt_bf16_f32 shapeCasts_S1024x128_S1x1x1024x128 x _ _ (by omega) (by omega) (by simp only; omega) (by simp only; omega)
    case piece4 =>
      dsimp only [k0_pay46, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 896 slices_S1024x1280_o0_896_S1024x128 rotates_S1024x128_d1 bitsLt_bf16_f32 shapeCasts_S1024x128_S1x1x1024x128 x _ _ (by omega) (by omega) (by simp only; omega) (by simp only; omega)
    case piece5 =>
      dsimp only [k0_pay45, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 896 slices_S1024x1280_o0_896_S1024x128 bitsLt_bf16_f32 shapeCasts_S1024x128_S1x1x1024x128 x _ _ (by omega) (by omega) (by simp only; omega) (by simp only; omega)
    case piece6 =>
      dsimp only [k0_pay43, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 768 slices_S1024x1280_o0_768_S1024x128 rotates_S1024x128_d1 bitsLt_bf16_f32 shapeCasts_S1024x128_S1x1x1024x128 x _ _ (by omega) (by omega) (by simp only; omega) (by simp only; omega)
    case piece7 =>
      dsimp only [k0_pay41, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 768 slices_S1024x1280_o0_768_S1024x128 bitsLt_bf16_f32 shapeCasts_S1024x128_S1x1x1024x128 x _ _ (by omega) (by omega) (by simp only; omega) (by simp only; omega)
    case piece8 =>
      dsimp only [k0_pay39, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 640 slices_S1024x1280_o0_640_S1024x128 rotates_S1024x128_d1 bitsLt_bf16_f32 shapeCasts_S1024x128_S1x1x1024x128 x _ _ (by omega) (by omega) (by simp only; omega) (by simp only; omega)
    case piece9 =>
      dsimp only [k0_pay38, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 640 slices_S1024x1280_o0_640_S1024x128 bitsLt_bf16_f32 shapeCasts_S1024x128_S1x1x1024x128 x _ _ (by omega) (by omega) (by simp only; omega) (by simp only; omega)
    case piece10 =>
      dsimp only [k0_pay35, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 512 slices_S1024x1280_o0_512_S1024x128 rotates_S1024x128_d1 bitsLt_bf16_f32 shapeCasts_S1024x128_S1x1x1024x128 x _ _ (by omega) (by omega) (by simp only; omega) (by simp only; omega)
    case piece11 =>
      dsimp only [k0_pay33, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 512 slices_S1024x1280_o0_512_S1024x128 bitsLt_bf16_f32 shapeCasts_S1024x128_S1x1x1024x128 x _ _ (by omega) (by omega) (by simp only; omega) (by simp only; omega)
    case piece12 =>
      dsimp only [k0_pay30, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 384 slices_S1024x1280_o0_384_S1024x128 rotates_S1024x128_d1 bitsLt_bf16_f32 shapeCasts_S1024x128_S1x1x1024x128 x _ _ (by omega) (by omega) (by simp only; omega) (by simp only; omega)
    case piece13 =>
      dsimp only [k0_pay27, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 384 slices_S1024x1280_o0_384_S1024x128 bitsLt_bf16_f32 shapeCasts_S1024x128_S1x1x1024x128 x _ _ (by omega) (by omega) (by simp only; omega) (by simp only; omega)
    case piece14 =>
      dsimp only [k0_pay24, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 256 slices_S1024x1280_o0_256_S1024x128 rotates_S1024x128_d1 bitsLt_bf16_f32 shapeCasts_S1024x128_S1x1x1024x128 x _ _ (by omega) (by omega) (by simp only; omega) (by simp only; omega)
    case piece15 =>
      dsimp only [k0_pay22, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 256 slices_S1024x1280_o0_256_S1024x128 bitsLt_bf16_f32 shapeCasts_S1024x128_S1x1x1024x128 x _ _ (by omega) (by omega) (by simp only; omega) (by simp only; omega)
    case piece16 =>
      dsimp only [k0_pay19, k0_pay16, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 128 slices_S1024x1280_o0_128_S1024x128 rotates_S1024x128_d1 bitsLt_bf16_f32 shapeCasts_S1024x128_S1x1x1024x128 x _ _ (by omega) (by omega) (by simp only; omega) (by simp only; omega)
    case piece17 =>
      dsimp only [k0_pay17, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 128 slices_S1024x1280_o0_128_S1024x128 bitsLt_bf16_f32 shapeCasts_S1024x128_S1x1x1024x128 x _ _ (by omega) (by omega) (by simp only; omega) (by simp only; omega)
    case piece18 =>
      dsimp only [k0_pay14, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_odd D _ 0 slices_S1024x1280_o0_0_S1024x128 rotates_S1024x128_d1 bitsLt_bf16_f32 shapeCasts_S1024x128_S1x1x1024x128 x _ _ (by omega) (by omega) (by simp only; omega) (by simp only; omega)
    case piece19 =>
      dsimp only [k0_pay13, k0_pay12, k0_pay15, k0_pay16, k0_pay18, k0_pay20, k0_pay21, k0_pay25, k0_pay26, k0_pay31, k0_pay32, k0_pay36, k0_pay37, k0_pay40, k0_pay42, k0_pay44, k0_pay47, k0_pay48]
      exact key_even D _ 0 slices_S1024x1280_o0_0_S1024x128 bitsLt_bf16_f32 shapeCasts_S1024x128_S1x1x1024x128 x _ _ (by omega) (by omega) (by simp only; omega) (by simp only; omega)

end Cert.Qkv

end
-- ==== Proof.Qkv.Final.lean ====
/- What the projection's run leaves in its two results: the reference's values. -/
module

public import proofs.«01_k».proof.Proof.Qkv.Kern

@[expose] public section

set_option maxRecDepth 16384

noncomputable section

namespace Cert.Qkv

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- The projection's hidden value on the launch's arguments. -/
abbrev hidOf (r : Fin 32768) (n : Fin 11528) : EReal :=
  hid (m ((c : Thread nD τ).loc main_arg0)) (m ((c : Thread nD τ).loc main_arg1)) (m ((c : Thread nD τ).loc main_arg2)) r n

/-- The rows in use at a point are rows of the launch's array. -/
theorem rows_block (t : Fin cfg0.N) (r : Fin 1024) (k : Fin 2048) (R : Fin 32768) (hR : R.val = t.val / 3 * 1024 + r.val) :
    k0_pay5 (F := Ideal) (iblk m c 0 (start t)) (ix2 r k) = V m c main_v28 (ix2 R k) := by
  have hs : (start t).val / 3 = t.val / 3 := by show (t.val - t.val % 3) / 3 = t.val / 3; omega
  rw [rows_eq]
  pointwise []
  blk_ext [iblk, idx (start t)]

set_option maxHeartbeats 1600000 in
theorem point9 (t : Fin cfg0.N) (y : S1x20x1024x128.Idx) (hl : (y 3).val < 64) (R : Fin 32768) (J : Fin 3840)
    (hR : R.val = t.val / 3 * 1024 + (y 2).val) (hJ : J.val = (t.val % 3 * 20 + (y 1).val) * 64 + (y 3).val) :
    firstAt m c t y = hidOf m c R ⟨pick J.val, pick_lt J.isLt⟩ * scale (J.val / 64) := by
  have y1 : (y 1).val < 20 := (y 1).isLt
  rw [first_at m c t y hl, prod_at]
  have hw : ∀ k : Fin 2048, (iblk m c 1 t : Vec Ideal S2048x1280 .bf16) (ix2 k ⟨(y 1).val * 64 + (y 3).val, by omega⟩) = V m c main_v10 (ix2 k J) := by
    intro k; pointwise []; blk_ext [iblk, idx t]
  have hb : (iblk m c 2 t : Vec Ideal S1x1280 .f32) (ix2 0 ⟨(y 1).val * 64 + (y 3).val, by omega⟩) = V m c main_v21 (ix2 0 J) := by
    pointwise []; blk_ext [iblk, idx t]
  have hs : (iblk m c 3 t : Vec Ideal S1x1280 .f32) (ix2 0 ⟨(y 1).val * 64 + (y 3).val, by omega⟩) = V m c main_v95 (ix2 0 J) := by
    pointwise []; blk_ext [iblk, idx t]
  rw [hb, hs, bias_at, scales_at]
  unfold hidOf hid
  refine congrArg (· * _) (congrArg (· + _) (Fin.sum_fin_congr fun k => ?_))
  rw [hw, cols_at]
  refine congrArg (· * _) (Eq.trans ?_ (rows_at m c R k))
  exact rows_block m c t ⟨(y 2).val, (show (y 2).val < 1024 from (y 2).isLt)⟩ k R hR

theorem point10 (t : Fin cfg0.N) (r : Fin 1024) (j : Fin 128) (hj : j.val < 8) (R : Fin 32768) (hR : R.val = t.val / 3 * 1024 + r.val) :
    secondAt m c t (ix2 r j) = hidOf m c R ⟨2048 + j.val, by omega⟩ := by
  rw [second, forget_at]
  have hw : ∀ k : Fin 2048, (iblk m c 7 (start t) : Vec Ideal S2048x128 .bf16) (ix2 k j) = V m c main_v24 (ix2 k j) := by
    intro k; pointwise []; blk_ext [iblk, idx (start t)]
  have hb : (iblk m c 8 (start t) : Vec Ideal S1x128 .f32) (ix2 0 j) = V m c main_v27 (ix2 0 j) := by
    pointwise []; blk_ext [iblk, idx (start t)]
  rw [hb, fbias_at m c j hj]
  unfold hidOf hid
  refine congrArg (· + _) (Fin.sum_fin_congr fun k => ?_)
  rw [hw, fcols_at m c k j hj, rows_block m c t _ k R hR, rows_at]

/-! ## The two arrays -/

theorem arr9 (i : S2x60x16384x128.Idx) (hl : (i 3).val < 64) : (dats m 0 c).arrAt 9 cfg0.N i
    = hidOf m c ⟨(i 0).val * 16384 + (i 2).val, by have := (show (i 0).val < 2 from (i 0).isLt); have := (show (i 2).val < 16384 from (i 2).isLt); omega⟩
        ⟨pick ((i 1).val * 64 + (i 3).val), pick_lt (by have := (show (i 1).val < 60 from (i 1).isLt); omega)⟩ * scale (i 1).val := by
  refine (dats m 0 c).arrAt_forall_of_covers 9 (fun (i : S2x60x16384x128.Idx) v => ∀ hl : (i 3).val < 64, v
    = hidOf m c ⟨(i 0).val * 16384 + (i 2).val, by have := (show (i 0).val < 2 from (i 0).isLt); have := (show (i 2).val < 16384 from (i 2).isLt); omega⟩
        ⟨pick ((i 1).val * 64 + (i 3).val), pick_lt (by have := (show (i 1).val < 60 from (i 1).isLt); omega)⟩ * scale (i 1).val)
    (by decide +kernel) (fun t _ y => ?_) i (Memref.isWhole_whole _) hl
  blk_simp [idx t]
  rw [after0_9]
  intro h
  have ht : t.val < 96 := lt_of_lt_of_eq t.isLt N_eq
  have y1 : (y 1).val < 20 := (y 1).isLt
  have y2 : (y 2).val < 1024 := (y 2).isLt
  refine (point9 m c t y h ⟨t.val / 48 * 16384 + (t.val / 3 % 16 * 1024 + (y 2).val), by omega⟩
    ⟨(t.val % 3 * 20 + (y 1).val) * 64 + (y 3).val, by omega⟩ (by simp only; omega) rfl).trans ?_
  have e : ((t.val % 3 * 20 + (y 1).val) * 64 + (y 3).val) / 64 = t.val % 3 * 20 + (y 1).val := by omega
  exact congrArg (fun n => _ * scale n) e

theorem arr10 (i : S32768x128.Idx) (hl : (i 1).val < 8) : (dats m 0 c).arrAt 10 cfg0.N i
    = hidOf m c ⟨(i 0).val, (i 0).isLt⟩ ⟨2048 + (i 1).val, by omega⟩ := by
  refine (dats m 0 c).arrAt_forall_of_covers 10 (fun (i : S32768x128.Idx) v => ∀ hl : (i 1).val < 8, v
    = hidOf m c ⟨(i 0).val, (i 0).isLt⟩ ⟨2048 + (i 1).val, by omega⟩)
    (by decide +kernel) (fun t _ y => ?_) i (Memref.isWhole_whole _) hl
  blk_simp [idx t]
  rw [after0_10]
  intro h
  have ht : t.val < 96 := lt_of_lt_of_eq t.isLt N_eq
  have y0 : (y 0).val < 1024 := (y 0).isLt
  have y1 : (y 1).val < 128 := (y 1).isLt
  have ey : y = ix2 (⟨(y 0).val, y0⟩ : Fin 1024) (⟨(y 1).val, y1⟩ : Fin 128) := funext fun a => Fin.ext (by
    match a with
    | ⟨0, _⟩ => rfl
    | ⟨1, _⟩ => rfl)
  exact (congrArg (secondAt m c t) ey).trans (point10 m c t ⟨(y 0).val, y0⟩ ⟨(y 1).val, y1⟩ h ⟨t.val / 3 * 1024 + (y 0).val, by omega⟩ rfl)

/-! ## The results, sliced from them -/

theorem res0 : Pipeline.afterTail₀ cfgs (dats m) 0 (V0 m) [hostOps1] c main_v100
    = extractStridedSlice S2x60x16384x64 ![0, 0, 0, 0] ((dats m 0 c).arrAt 9 cfg0.N : FVec Ideal S2x60x16384x128 .bf16) slices_S2x60x16384x128_S2x60x16384x64_0_0_0_0 := by
  have e : Pipeline.withArrays (cfgs 0).spec c (V0 m c) (fun w => (dats m 0 c).arrAt w (cfgs 0).N) (Proc.devRef .tc main_v99_0) = (dats m 0 c).arrAt 9 cfg0.N :=
    Pipeline.withArrays_arr (cfgs 0).spec (by decide) c (V0 m c) (fun w => (dats m 0 c).arrAt w (cfgs 0).N) 9
  rw [← e]
  rfl

theorem res1 : Pipeline.afterTail₀ cfgs (dats m) 0 (V0 m) [hostOps1] c main_v101
    = extractStridedSlice S32768x8 ![0, 0] ((dats m 0 c).arrAt 10 cfg0.N : FVec Ideal S32768x128 .f32) slices_S32768x128_S32768x8_0_0 := by
  have e : Pipeline.withArrays (cfgs 0).spec c (V0 m c) (fun w => (dats m 0 c).arrAt w (cfgs 0).N) (Proc.devRef .tc main_v99_1) = (dats m 0 c).arrAt 10 cfg0.N :=
    Pipeline.withArrays_arr (cfgs 0).spec (by decide) c (V0 m c) (fun w => (dats m 0 c).arrAt w (cfgs 0).N) 10
  rw [← e]
  rfl

/-- The first result is the reference's. -/
theorem value0 : Pipeline.afterTail₀ cfgs (dats m) 0 (V0 m) [hostOps1] c main_v100
    = Cert.Reference4Ideal.Read.val_main_v43 (F := Ideal) (m ((c : Thread nD τ).loc main_arg0)) (m ((c : Thread nD τ).loc main_arg1)) (m ((c : Thread nD τ).loc main_arg2)) := by
  rw [res0]
  have key : ∀ (i : Fin 2) (h : Fin 60) (s : Fin 16384) (l : Fin 64),
      extractStridedSlice S2x60x16384x64 ![0, 0, 0, 0] ((dats m 0 c).arrAt 9 cfg0.N : FVec Ideal S2x60x16384x128 .bf16) slices_S2x60x16384x128_S2x60x16384x64_0_0_0_0 (ix4 i h s l)
        = Cert.Reference4Ideal.Read.val_main_v43 (F := Ideal) (m ((c : Thread nD τ).loc main_arg0)) (m ((c : Thread nD τ).loc main_arg1)) (m ((c : Thread nD τ).loc main_arg2)) (ix4 i h s l) := by
    intro i h s l
    rw [ref_at]
    have ha := arr9 m c (ix4 i h s (⟨l.val, by omega⟩ : Fin 128)) l.isLt
    revert ha
    generalize ((dats m 0 c).arrAt 9 cfg0.N : FVec Ideal S2x60x16384x128 .bf16) = A
    intro ha
    pointwise []
    exact ha
  funext z
  rw [eq_ix4 z]
  exact key _ _ _ _

/-- The second result is the reference's. -/
theorem value1 : Pipeline.afterTail₀ cfgs (dats m) 0 (V0 m) [hostOps1] c main_v101
    = Cert.Reference4Ideal.Read.val_main_v44 (F := Ideal) (m ((c : Thread nD τ).loc main_arg0)) (m ((c : Thread nD τ).loc main_arg1)) (m ((c : Thread nD τ).loc main_arg2)) := by
  rw [res1]
  have key : ∀ (r : Fin 32768) (j : Fin 8),
      extractStridedSlice S32768x8 ![0, 0] ((dats m 0 c).arrAt 10 cfg0.N : FVec Ideal S32768x128 .f32) slices_S32768x128_S32768x8_0_0 (ix2 r j)
        = Cert.Reference4Ideal.Read.val_main_v44 (F := Ideal) (m ((c : Thread nD τ).loc main_arg0)) (m ((c : Thread nD τ).loc main_arg1)) (m ((c : Thread nD τ).loc main_arg2)) (ix2 r j) := by
    intro r j
    rw [ref_forget]
    have ha := arr10 m c (ix2 r (⟨j.val, by omega⟩ : Fin 128)) j.isLt
    revert ha
    generalize ((dats m 0 c).arrAt 10 cfg0.N : FVec Ideal S32768x128 .f32) = A
    intro ha
    pointwise []
    exact ha
  funext z
  rw [eq_ix2 z]
  exact key _ _

/-- Every run ends with the reference's two results, and the arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v100)
        = Cert.Reference4Ideal.Read.val_main_v43 (F := Ideal) (m ((c : Thread nD τ).loc main_arg0)) (m ((c : Thread nD τ).loc main_arg1)) (m ((c : Thread nD τ).loc main_arg2))
      ∧ r.2.mem ((c.tc : Thread nD τ).loc main_v101)
        = Cert.Reference4Ideal.Read.val_main_v44 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v100 (Pipeline.mem_restRefs_of main_v100 (by decide) (by decide))).trans (value0 m c),
      ((h c).2 main_v101 (Pipeline.mem_restRefs_of main_v101 (by decide) (by decide))).trans (value1 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Qkv

end
-- ==== Proof.lean ====
/- The certificate: the frames of the programs, what the ideal kernels are, and what they compute. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal.Skeleton
public import proofs.«01_k».proof.Proof.Gen.Kernel4Ideal.Frame
public import proofs.«01_k».proof.Proof.Gen.Reference4Ideal.Run
public import proofs.«01_k».proof.Proof.Gen.Reference4Ideal.Read
public import proofs.«01_k».proof.Proof.Swa.Pre
public import proofs.«01_k».proof.Proof.Merge.Kern
public import proofs.«01_k».proof.Proof.Zg.Kern
public import proofs.«01_k».proof.Proof.Qkv.Bits
public import proofs.«01_k».proof.Proof.Qkv.Final

@[expose] public section

noncomputable section

namespace Cert.Proof

open Idealize.ShloMosaic Idealize.SL.Sem

/-- The windowed attention and its reference compute one function of finite queries, keys and sinks. -/
theorem swa_value [hP : Cert.Pre_finite.Facts] : Cert.algebraic_KernelIdeal_ReferenceIdeal_pre_finite
    (hKernelIdeal := Cert.KernelIdeal.Gen.facts) (hReferenceIdeal := Cert.ReferenceIdeal.Gen.facts) (hPre_finite := hP) :=
  fun m ρ m' ρ' hpre hag => ⟨fun c => (Cert.KernelIdeal.Gen.dats m 0 c).arrAt 5 Cert.KernelIdeal.cfg0.N, Cert.KernelIdeal.Value.run_blocks m ρ,
    (θ_run _ _ _).mono (fun _ h c => ⟨(h c).1.trans (by
      rw [Cert.ReferenceIdeal.Read.val_main_v93_eq, (hag c).1, (hag c).2.1, (hag c).2.2.1, (hag c).2.2.2]
      exact (Cert.Swa.final m c (Cert.Swa.finite_of_pre m hpre c)).symm), (h c).2⟩) (Cert.ReferenceIdeal.Value.run m' ρ')⟩

/-- The reference of the windowed attention ends with its arguments unchanged; it declares no semaphore. -/
theorem swa_reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The merge and its reference compute one function. -/
theorem merge_value : Cert.algebraic_Kernel2Ideal_Reference2Ideal
    (hKernel2Ideal := Cert.Kernel2Ideal.Gen.facts) (hReference2Ideal := Cert.Reference2Ideal.Gen.facts) :=
  fun m ρ m' ρ' _ hag => ⟨fun c => (Cert.Kernel2Ideal.Gen.dats m 0 c).arrAt 9 Cert.Kernel2Ideal.cfg0.N, Cert.Kernel2Ideal.Value.run_blocks m ρ,
    (θ_run _ _ _).mono (fun _ h c => ⟨(h c).1.trans (by
      rw [Cert.Reference2Ideal.Read.val_main_v39_eq, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1, (hag c).2.2.2.2.2.2.2.2.2.2.2.2.1, (hag c).2.2.2.2.2.2.2.2.2.2.2.2.2.1, (hag c).2.2.2.2.2.2.2.2.2.2.2.2.2.2.1, (hag c).2.2.2.2.2.2.2.2.2.2.2.2.2.2.2]
      exact (Cert.Merge.final m c).symm), (h c).2⟩) (Cert.Reference2Ideal.Value.run m' ρ')⟩

theorem merge_reference_frame : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

/-- The gates' projection and its reference compute one function. -/
theorem zg_value : Cert.algebraic_Kernel3Ideal_Reference3Ideal
    (hKernel3Ideal := Cert.Kernel3Ideal.Gen.facts) (hReference3Ideal := Cert.Reference3Ideal.Gen.facts) :=
  fun m ρ m' ρ' _ hag => ⟨fun c => (Cert.Kernel3Ideal.Gen.dats m 0 c).arrAt 3 Cert.Kernel3Ideal.cfg0.N, Cert.Kernel3Ideal.Value.run_blocks m ρ,
    (θ_run _ _ _).mono (fun _ h c => ⟨(h c).1.trans (by
      rw [Cert.Reference3Ideal.Read.val_main_v43_eq, (hag c).1, (hag c).2.1, (hag c).2.2]
      exact (Cert.Zg.final m c).symm), (h c).2⟩) (Cert.Reference3Ideal.Value.run m' ρ')⟩

theorem zg_reference_frame : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run m ρ)

/-- The projection of queries, keys, values and forget logits and its reference compute one pair of functions. -/
theorem qkv_value : Cert.algebraic_Kernel4Ideal_Reference4Ideal
    (hKernel4Ideal := Cert.Kernel4Ideal.Gen.facts) (hReference4Ideal := Cert.Reference4Ideal.Gen.facts) :=
  fun m ρ m' ρ' _ hag => ⟨_, _, Cert.Qkv.run m ρ,
    (θ_run _ _ _).mono (fun _ h c => ⟨(h c).1.trans (by
        rw [Cert.Reference4Ideal.Read.val_main_v43_eq, (hag c).1, (hag c).2.1, (hag c).2.2]),
      (h c).2.1.trans (by
        rw [Cert.Reference4Ideal.Read.val_main_v44_eq, (hag c).1, (hag c).2.1, (hag c).2.2]), (h c).2.2⟩) (Cert.Reference4Ideal.Value.run m' ρ')⟩

theorem qkv_reference_frame : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Swa.pre_facts,
  fun m ρ _ => Cert.Kernel.Gen.frame m ρ, fun m ρ _ => Cert.KernelIdeal.Gen.frame m ρ, fun m ρ _ => Cert.KernelIdeal.Gen.frame m ρ,
  swa_reference_frame, fun m ρ _ => swa_reference_frame m ρ trivial,
  fun m ρ _ => Cert.Kernel2.Gen.frame m ρ, fun m ρ _ => Cert.Kernel2Ideal.Gen.frame m ρ, merge_reference_frame,
  fun m ρ _ => Cert.Kernel3.Gen.frame m ρ, fun m ρ _ => Cert.Kernel3Ideal.Gen.frame m ρ, zg_reference_frame,
  Cert.Qkv.frame_bits, fun m ρ _ => Cert.Qkv.frame m ρ, qkv_reference_frame,
  IdealRules.named_const.statement Cert.KernelIdeal.κ "mask" .f32 0xF149F2CA#32 ⊥ rfl,
  swa_value (hP := Cert.Swa.pre_facts), trivial, merge_value, trivial, zg_value, trivial, qkv_value⟩

end Cert.Proof

end
